-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v32)) (v3 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_v33) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ preserves_Kernel_KernelIdeal
    ∧ algebraic_KernelIdeal_ReferenceIdeal (hKernelIdeal := hKernelIdeal) (hReferenceIdeal := hReferenceIdeal)
    ∧ preserves_Kernel2_Kernel2Ideal
-- ==== Kernel.lean ====
abbrev S4x60x60x384 : Shape := ⟨4, ![4, 60, 60, 384]⟩
abbrev S4x60x60x1 : Shape := ⟨4, ![4, 60, 60, 1]⟩
abbrev S_ : Shape := ⟨0, ![]⟩
abbrev S4x60x60 : Shape := ⟨3, ![4, 60, 60]⟩
abbrev S4x3600 : Shape := ⟨2, ![4, 3600]⟩
abbrev S4x3600x1 : Shape := ⟨3, ![4, 3600, 1]⟩
abbrev S4x3600x384 : Shape := ⟨3, ![4, 3600, 384]⟩
abbrev S4x384x3600 : Shape := ⟨3, ![4, 384, 3600]⟩
abbrev S4x5x720x1 : Shape := ⟨4, ![4, 5, 720, 1]⟩
abbrev S4x1x3600 : Shape := ⟨3, ![4, 1, 3600]⟩
abbrev S1x720x384 : Shape := ⟨3, ![1, 720, 384]⟩
abbrev S1x384x3600 : Shape := ⟨3, ![1, 384, 3600]⟩
abbrev S1x1x720x1 : Shape := ⟨4, ![1, 1, 720, 1]⟩
abbrev S1x1x3600 : Shape := ⟨3, ![1, 1, 3600]⟩
abbrev S1x3600 : Shape := ⟨2, ![1, 3600]⟩
abbrev S720x384 : Shape := ⟨2, ![720, 384]⟩
abbrev S384x3600 : Shape := ⟨2, ![384, 3600]⟩
abbrev S720x3600 : Shape := ⟨2, ![720, 3600]⟩
abbrev S720x1 : Shape := ⟨2, ![720, 1]⟩
abbrev S720 : Shape := ⟨1, ![720]⟩
abbrev S3600 : Shape := ⟨1, ![3600]⟩

abbrev nBuf : Space → Nat
  | .hbm => 61
  | .vmem => 22
  | .smem => 0
  | _ => 0

abbrev bufTy : (tb : Table) → Fin (tcTables nBuf tb) → BufTy
  | .hbm, ⟨0, _⟩ => ⟨S4x60x60x384, .f32⟩
  | .hbm, ⟨1, _⟩ => ⟨S4x60x60x384, .f32⟩
  | .hbm, ⟨2, _⟩ => ⟨S4x60x60x1, .i32⟩
  | .hbm, ⟨3, _⟩ => ⟨S4x60x60x1, .i32⟩
  | .hbm, ⟨4, _⟩ => ⟨S4x60x60x384, .f32⟩
  | .hbm, ⟨5, _⟩ => ⟨S_, .f32⟩
  | .hbm, ⟨6, _⟩ => ⟨S4x60x60, .f32⟩
  | .hbm, ⟨7, _⟩ => ⟨S4x60x60x1, .f32⟩
  | .hbm, ⟨8, _⟩ => ⟨S4x60x60x1, .f32⟩
  | .hbm, ⟨9, _⟩ => ⟨S4x60x60x384, .f32⟩
  | .hbm, ⟨10, _⟩ => ⟨S4x60x60x384, .f32⟩
  | .hbm, ⟨11, _⟩ => ⟨S4x60x60x384, .f32⟩
  | .hbm, ⟨12, _⟩ => ⟨S_, .f32⟩
  | .hbm, ⟨13, _⟩ => ⟨S4x60x60, .f32⟩
  | .hbm, ⟨14, _⟩ => ⟨S4x60x60x1, .f32⟩
  | .hbm, ⟨15, _⟩ => ⟨S4x60x60x1, .f32⟩
  | .hbm, ⟨16, _⟩ => ⟨S4x60x60x384, .f32⟩
  | .hbm, ⟨17, _⟩ => ⟨S4x60x60x384, .f32⟩
  | .hbm, ⟨18, _⟩ => ⟨S4x3600, .i32⟩
  | .hbm, ⟨19, _⟩ => ⟨S_, .i32⟩
  | .hbm, ⟨20, _⟩ => ⟨S4x3600, .i32⟩
  | .hbm, ⟨21, _⟩ => ⟨S4x3600, .i1⟩
  | .hbm, ⟨22, _⟩ => ⟨S4x3600, .i32⟩
  | .hbm, ⟨23, _⟩ => ⟨S_, .i32⟩
  | .hbm, ⟨24, _⟩ => ⟨S4x3600, .i32⟩
  | .hbm, ⟨25, _⟩ => ⟨S4x3600, .i1⟩
  | .hbm, ⟨26, _⟩ => ⟨S4x3600x1, .i1⟩
  | .hbm, ⟨27, _⟩ => ⟨S4x3600x384, .f32⟩
  | .hbm, ⟨28, _⟩ => ⟨S_, .f32⟩
  | .hbm, ⟨29, _⟩ => ⟨S_, .f32⟩
  | .hbm, ⟨30, _⟩ => ⟨S4x3600x384, .i1⟩
  | .hbm, ⟨31, _⟩ => ⟨S4x3600x384, .f32⟩
  | .hbm, ⟨32, _⟩ => ⟨S4x3600x384, .f32⟩
  | .hbm, ⟨33, _⟩ => ⟨S4x3600x1, .i1⟩
  | .hbm, ⟨34, _⟩ => ⟨S4x3600x384, .f32⟩
  | .hbm, ⟨35, _⟩ => ⟨S_, .f32⟩
  | .hbm, ⟨36, _⟩ => ⟨S_, .f32⟩
  | .hbm, ⟨37, _⟩ => ⟨S4x3600x384, .i1⟩
  | .hbm, ⟨38, _⟩ => ⟨S4x3600x384, .f32⟩
  | .hbm, ⟨39, _⟩ => ⟨S4x3600x384, .f32⟩
  | .hbm, ⟨40, _⟩ => ⟨S4x3600x384, .f32⟩
  | .hbm, ⟨41, _⟩ => ⟨S_, .f32⟩
  | .hbm, ⟨42, _⟩ => ⟨S4x3600, .f32⟩
  | .hbm, ⟨43, _⟩ => ⟨S4x3600x384, .f32⟩
  | .hbm, ⟨44, _⟩ => ⟨S_, .f32⟩
  | .hbm, ⟨45, _⟩ => ⟨S4x3600, .f32⟩
  | .hbm, ⟨46, _⟩ => ⟨S4x3600, .i32⟩
  | .hbm, ⟨47, _⟩ => ⟨S4x3600, .i32⟩
  | .hbm, ⟨48, _⟩ => ⟨S4x384x3600, .f32⟩
  | .hbm, ⟨49, _⟩ => ⟨S4x5x720x1, .f32⟩
  | .hbm, ⟨50, _⟩ => ⟨S4x1x3600, .f32⟩
  | .hbm, ⟨51, _⟩ => ⟨S4x5x720x1, .i32⟩
  | .hbm, ⟨52, _⟩ => ⟨S4x1x3600, .i32⟩
  | .hbm, ⟨53, _⟩ => ⟨S4x5x720x1, .i32⟩
  | .hbm, ⟨54, _⟩ => ⟨S4x1x3600, .i32⟩
  | .hbm, ⟨55, _⟩ => ⟨S4x5x720x1, .f32⟩
  | .hbm, ⟨56, _⟩ => ⟨S4x1x3600, .f32⟩
  | .hbm, ⟨57, _⟩ => ⟨S4x3600, .i32⟩
  | .hbm, ⟨58, _⟩ => ⟨S4x3600, .i32⟩
  | .hbm, ⟨59, _⟩ => ⟨S4x3600, .f32⟩
  | .hbm, ⟨60, _⟩ => ⟨S4x3600, .f32⟩
  | .local _ .vmem, ⟨0, _⟩ => ⟨S1x720x384, .f32⟩
  | .local _ .vmem, ⟨1, _⟩ => ⟨S1x720x384, .f32⟩
  | .local _ .vmem, ⟨2, _⟩ => ⟨S1x384x3600, .f32⟩
  | .local _ .vmem, ⟨3, _⟩ => ⟨S1x384x3600, .f32⟩
  | .local _ .vmem, ⟨4, _⟩ => ⟨S1x1x720x1, .f32⟩
  | .local _ .vmem, ⟨5, _⟩ => ⟨S1x1x720x1, .f32⟩
  | .local _ .vmem, ⟨6, _⟩ => ⟨S1x1x3600, .f32⟩
  | .local _ .vmem, ⟨7, _⟩ => ⟨S1x1x3600, .f32⟩
  | .local _ .vmem, ⟨8, _⟩ => ⟨S1x1x720x1, .i32⟩
  | .local _ .vmem, ⟨9, _⟩ => ⟨S1x1x720x1, .i32⟩
  | .local _ .vmem, ⟨10, _⟩ => ⟨S1x1x3600, .i32⟩
  | .local _ .vmem, ⟨11, _⟩ => ⟨S1x1x3600, .i32⟩
  | .local _ .vmem, ⟨12, _⟩ => ⟨S1x1x720x1, .i32⟩
  | .local _ .vmem, ⟨13, _⟩ => ⟨S1x1x720x1, .i32⟩
  | .local _ .vmem, ⟨14, _⟩ => ⟨S1x1x3600, .i32⟩
  | .local _ .vmem, ⟨15, _⟩ => ⟨S1x1x3600, .i32⟩
  | .local _ .vmem, ⟨16, _⟩ => ⟨S1x1x720x1, .f32⟩
  | .local _ .vmem, ⟨17, _⟩ => ⟨S1x1x720x1, .f32⟩
  | .local _ .vmem, ⟨18, _⟩ => ⟨S1x1x3600, .f32⟩
  | .local _ .vmem, ⟨19, _⟩ => ⟨S1x1x3600, .f32⟩
  | .local _ .vmem, ⟨20, _⟩ => ⟨S1x3600, .f32⟩
  | .local _ .vmem, ⟨21, _⟩ => ⟨S1x3600, .i32⟩
  | _, _ => ⟨S4x60x60x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29_0 : Ref sig .tc := ⟨.hbm, 53, rfl⟩
abbrev main_v29_1 : Ref sig .tc := ⟨.hbm, 54, rfl⟩
abbrev main_v29_2 : Ref sig .tc := ⟨.hbm, 55, rfl⟩
abbrev main_v29_3 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 5], ![false, false]⟩

def k0_cond3 (i : grid0.Coords) : BitVec 1 :=
  let arg1 : BitVec 32 := BitVec.ofNat 32 (i 1).val
  let c4_i32 : BitVec 32 := 4#32
  let v63 : BitVec 1 := Scalar.cmpi .eq arg1 c4_i32
  let v64 : BitVec 32 := Scalar.extui v63
  let c0_i32_40 : BitVec 32 := 0#32
  let v65 : BitVec 1 := Scalar.cmpi .ne v64 c0_i32_40
  v65

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x720x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x3600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x720x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x720x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x3600 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x720x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x3600 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x720x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x3600 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4x60x60x384 : Shape := ⟨4, ![4, 60, 60, 384]⟩
abbrev S4x60x60x1 : Shape := ⟨4, ![4, 60, 60, 1]⟩
abbrev S_ : Shape := ⟨0, ![]⟩
abbrev S4x60x60 : Shape := ⟨3, ![4, 60, 60]⟩
abbrev S4x3600 : Shape := ⟨2, ![4, 3600]⟩
abbrev S4x3600x1 : Shape := ⟨3, ![4, 3600, 1]⟩
abbrev S4x3600x384 : Shape := ⟨3, ![4, 3600, 384]⟩
abbrev S4x1x3600 : Shape := ⟨3, ![4, 1, 3600]⟩
abbrev S4x3600x3600 : Shape := ⟨3, ![4, 3600, 3600]⟩

abbrev nBuf : Space → Nat
  | .hbm => 87
  | .vmem => 0
  | .smem => 0
  | _ => 0

abbrev bufTy : (tb : Table) → Fin (tcTables nBuf tb) → BufTy
  | .hbm, ⟨0, _⟩ => ⟨S4x60x60x384, .f32⟩
  | .hbm, ⟨1, _⟩ => ⟨S4x60x60x384, .f32⟩
  | .hbm, ⟨2, _⟩ => ⟨S4x60x60x1, .i32⟩
  | .hbm, ⟨3, _⟩ => ⟨S4x60x60x1, .i32⟩
  | .hbm, ⟨4, _⟩ => ⟨S4x60x60x384, .f32⟩
  | .hbm, ⟨5, _⟩ => ⟨S_, .f32⟩
  | .hbm, ⟨6, _⟩ => ⟨S4x60x60, .f32⟩
  | .hbm, ⟨7, _⟩ => ⟨S4x60x60x1, .f32⟩
  | .hbm, ⟨8, _⟩ => ⟨S4x60x60x1, .f32⟩
  | .hbm, ⟨9, _⟩ => ⟨S4x60x60x384, .f32⟩
  | .hbm, ⟨10, _⟩ => ⟨S4x60x60x384, .f32⟩
  | .hbm, ⟨11, _⟩ => ⟨S4x60x60x384, .f32⟩
  | .hbm, ⟨12, _⟩ => ⟨S_, .f32⟩
  | .hbm, ⟨13, _⟩ => ⟨S4x60x60, .f32⟩
  | .hbm, ⟨14, _⟩ => ⟨S4x60x60x1, .f32⟩
  | .hbm, ⟨15, _⟩ => ⟨S4x60x60x1, .f32⟩
  | .hbm, ⟨16, _⟩ => ⟨S4x60x60x384, .f32⟩
  | .hbm, ⟨17, _⟩ => ⟨S4x60x60x384, .f32⟩
  | .hbm, ⟨18, _⟩ => ⟨S4x3600, .i32⟩
  | .hbm, ⟨19, _⟩ => ⟨S_, .i32⟩
  | .hbm, ⟨20, _⟩ => ⟨S4x3600, .i32⟩
  | .hbm, ⟨21, _⟩ => ⟨S4x3600, .i1⟩
  | .hbm, ⟨22, _⟩ => ⟨S4x3600, .i32⟩
  | .hbm, ⟨23, _⟩ => ⟨S_, .i32⟩
  | .hbm, ⟨24, _⟩ => ⟨S4x3600, .i32⟩
  | .hbm, ⟨25, _⟩ => ⟨S4x3600, .i1⟩
  | .hbm, ⟨26, _⟩ => ⟨S4x3600x1, .i1⟩
  | .hbm, ⟨27, _⟩ => ⟨S4x3600x384, .f32⟩
  | .hbm, ⟨28, _⟩ => ⟨S_, .f32⟩
  | .hbm, ⟨29, _⟩ => ⟨S_, .f32⟩
  | .hbm, ⟨30, _⟩ => ⟨S4x3600x384, .i1⟩
  | .hbm, ⟨31, _⟩ => ⟨S4x3600x384, .f32⟩
  | .hbm, ⟨32, _⟩ => ⟨S4x3600x384, .f32⟩
  | .hbm, ⟨33, _⟩ => ⟨S4x3600x1, .i1⟩
  | .hbm, ⟨34, _⟩ => ⟨S4x3600x384, .f32⟩
  | .hbm, ⟨35, _⟩ => ⟨S_, .f32⟩
  | .hbm, ⟨36, _⟩ => ⟨S_, .f32⟩
  | .hbm, ⟨37, _⟩ => ⟨S4x3600x384, .i1⟩
  | .hbm, ⟨38, _⟩ => ⟨S4x3600x384, .f32⟩
  | .hbm, ⟨39, _⟩ => ⟨S4x3600x384, .f32⟩
  | .hbm, ⟨40, _⟩ => ⟨S4x3600x384, .f32⟩
  | .hbm, ⟨41, _⟩ => ⟨S_, .f32⟩
  | .hbm, ⟨42, _⟩ => ⟨S4x3600, .f32⟩
  | .hbm, ⟨43, _⟩ => ⟨S4x3600x384, .f32⟩
  | .hbm, ⟨44, _⟩ => ⟨S_, .f32⟩
  | .hbm, ⟨45, _⟩ => ⟨S4x3600, .f32⟩
  | .hbm, ⟨46, _⟩ => ⟨S4x3600x1, .f32⟩
  | .hbm, ⟨47, _⟩ => ⟨S4x1x3600, .f32⟩
  | .hbm, ⟨48, _⟩ => ⟨S4x3600x3600, .f32⟩
  | .hbm, ⟨49, _⟩ => ⟨S4x3600x3600, .f32⟩
  | .hbm, ⟨50, _⟩ => ⟨S4x3600x3600, .f32⟩
  | .hbm, ⟨51, _⟩ => ⟨S4x3600x3600, .f32⟩
  | .hbm, ⟨52, _⟩ => ⟨S_, .f32⟩
  | .hbm, ⟨53, _⟩ => ⟨S4x3600x3600, .f32⟩
  | .hbm, ⟨54, _⟩ => ⟨S4x3600x3600, .f32⟩
  | .hbm, ⟨55, _⟩ => ⟨S4x3600x3600, .f32⟩
  | .hbm, ⟨56, _⟩ => ⟨S_, .f32⟩
  | .hbm, ⟨57, _⟩ => ⟨S4x3600x3600, .f32⟩
  | .hbm, ⟨58, _⟩ => ⟨S4x3600x3600, .f32⟩
  | .hbm, ⟨59, _⟩ => ⟨S4x3600x1, .i1⟩
  | .hbm, ⟨60, _⟩ => ⟨S4x1x3600, .i1⟩
  | .hbm, ⟨61, _⟩ => ⟨S4x3600x3600, .i1⟩
  | .hbm, ⟨62, _⟩ => ⟨S4x3600x3600, .i1⟩
  | .hbm, ⟨63, _⟩ => ⟨S4x3600x3600, .i1⟩
  | .hbm, ⟨64, _⟩ => ⟨S4x3600x3600, .f32⟩
  | .hbm, ⟨65, _⟩ => ⟨S_, .f32⟩
  | .hbm, ⟨66, _⟩ => ⟨S_, .f32⟩
  | .hbm, ⟨67, _⟩ => ⟨S4x3600x3600, .f32⟩
  | .hbm, ⟨68, _⟩ => ⟨S4x3600x3600, .f32⟩
  | .hbm, ⟨69, _⟩ => ⟨S4x3600x3600, .i32⟩
  | .hbm, ⟨70, _⟩ => ⟨S_, .f32⟩
  | .hbm, ⟨71, _⟩ => ⟨S_, .i32⟩
  | .hbm, ⟨72, _⟩ => ⟨S4x3600, .f32⟩
  | .hbm, ⟨73, _⟩ => ⟨S4x3600, .i32⟩
  | .hbm, ⟨74, _⟩ => ⟨S4x3600x3600, .i32⟩
  | .hbm, ⟨75, _⟩ => ⟨S_, .f32⟩
  | .hbm, ⟨76, _⟩ => ⟨S_, .i32⟩
  | .hbm, ⟨77, _⟩ => ⟨S4x3600, .f32⟩
  | .hbm, ⟨78, _⟩ => ⟨S4x3600, .i32⟩
  | .hbm, ⟨79, _⟩ => ⟨S_, .f32⟩
  | .hbm, ⟨80, _⟩ => ⟨S_, .f32⟩
  | .hbm, ⟨81, _⟩ => ⟨S4x3600x3600, .f32⟩
  | .hbm, ⟨82, _⟩ => ⟨S4x3600x3600, .f32⟩
  | .hbm, ⟨83, _⟩ => ⟨S_, .f32⟩
  | .hbm, ⟨84, _⟩ => ⟨S4x3600, .f32⟩
  | .hbm, ⟨85, _⟩ => ⟨S_, .f32⟩
  | .hbm, ⟨86, _⟩ => ⟨S4x3600, .f32⟩
  | _, _ => ⟨S4x60x60x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_call4_v0 : Ref sig .tc := ⟨.hbm, 66, rfl⟩
abbrev main_call4_v1 : Ref sig .tc := ⟨.hbm, 67, rfl⟩
abbrev main_v39 : Ref sig .tc := ⟨.hbm, 68, rfl⟩
abbrev main_call5_v0 : Ref sig .tc := ⟨.hbm, 69, rfl⟩
abbrev main_call5_cst : Ref sig .tc := ⟨.hbm, 70, rfl⟩
abbrev main_call5_c : Ref sig .tc := ⟨.hbm, 71, rfl⟩
abbrev main_call5_v1_0 : Ref sig .tc := ⟨.hbm, 72, rfl⟩
abbrev main_v40 : Ref sig .tc := ⟨.hbm, 73, rfl⟩
abbrev main_call6_v0 : Ref sig .tc := ⟨.hbm, 74, rfl⟩
abbrev main_call6_cst : Ref sig .tc := ⟨.hbm, 75, rfl⟩
abbrev main_call6_c : Ref sig .tc := ⟨.hbm, 76, rfl⟩
abbrev main_call6_v1_0 : Ref sig .tc := ⟨.hbm, 77, rfl⟩
abbrev main_v41 : Ref sig .tc := ⟨.hbm, 78, rfl⟩
abbrev main_cst_7 : Ref sig .tc := ⟨.hbm, 79, rfl⟩
abbrev main_call7_v0 : Ref sig .tc := ⟨.hbm, 80, rfl⟩
abbrev main_call7_v1 : Ref sig .tc := ⟨.hbm, 81, rfl⟩
abbrev main_v42 : Ref sig .tc := ⟨.hbm, 82, rfl⟩
abbrev main_cst_8 : Ref sig .tc := ⟨.hbm, 83, rfl⟩
abbrev main_v43 : Ref sig .tc := ⟨.hbm, 84, rfl⟩
abbrev main_cst_9 : Ref sig .tc := ⟨.hbm, 85, rfl⟩
abbrev main_v44 : Ref sig .tc := ⟨.hbm, 86, rfl⟩

abbrev nD : Nat := 1
abbrev τ : Topo := Topo.v7x

variable {F : FTy → Type} [FloatOps F]
-- ==== Kernel2.lean ====
abbrev S4x3600 : Shape := ⟨2, ![4, 3600]⟩
abbrev S4x128 : Shape := ⟨2, ![4, 128]⟩
abbrev S8x3600 : Shape := ⟨2, ![8, 3600]⟩
abbrev S8x1x3600 : Shape := ⟨3, ![8, 1, 3600]⟩
abbrev S_ : Shape := ⟨0, ![]⟩
abbrev S8x3648 : Shape := ⟨2, ![8, 3648]⟩
abbrev S8x57x64 : Shape := ⟨3, ![8, 57, 64]⟩
abbrev S8x128 : Shape := ⟨2, ![8, 128]⟩
abbrev S8x1x128 : Shape := ⟨3, ![8, 1, 128]⟩
abbrev S1x3600 : Shape := ⟨2, ![1, 3600]⟩
abbrev S1x1x3600 : Shape := ⟨3, ![1, 1, 3600]⟩
abbrev S1x57x64 : Shape := ⟨3, ![1, 57, 64]⟩
abbrev S57x64 : Shape := ⟨2, ![57, 64]⟩
abbrev S64x3600 : Shape := ⟨2, ![64, 3600]⟩
abbrev S57x3600 : Shape := ⟨2, ![57, 3600]⟩
abbrev S3600 : Shape := ⟨1, ![3600]⟩
abbrev S1x1x128 : Shape := ⟨3, ![1, 1, 128]⟩
abbrev S1x128 : Shape := ⟨2, ![1, 128]⟩
abbrev S64x128 : Shape := ⟨2, ![64, 128]⟩
abbrev S57x128 : Shape := ⟨2, ![57, 128]⟩
abbrev S128 : Shape := ⟨1, ![128]⟩
abbrev S1 : Shape := ⟨1, ![1]⟩
abbrev S1x1 : Shape := ⟨2, ![1, 1]⟩
abbrev S8x1 : Shape := ⟨2, ![8, 1]⟩
abbrev S8 : Shape := ⟨1, ![8]⟩
abbrev S4x128x1 : Shape := ⟨3, ![4, 128, 1]⟩
abbrev S4x128x2 : Shape := ⟨3, ![4, 128, 2]⟩

abbrev nBuf : Space → Nat
  | .hbm => 40
  | .vmem => 8
  | .smem => 0
  | _ => 0

abbrev bufTy : (tb : Table) → Fin (tcTables nBuf tb) → BufTy
  | .hbm, ⟨0, _⟩ => ⟨S4x3600, .i32⟩
  | .hbm, ⟨1, _⟩ => ⟨S4x3600, .i32⟩
  | .hbm, ⟨2, _⟩ => ⟨S4x3600, .f32⟩
  | .hbm, ⟨3, _⟩ => ⟨S4x3600, .f32⟩
  | .hbm, ⟨4, _⟩ => ⟨S4x3600, .i32⟩
  | .hbm, ⟨5, _⟩ => ⟨S4x3600, .i32⟩
  | .hbm, ⟨6, _⟩ => ⟨S4x128, .i32⟩
  | .hbm, ⟨7, _⟩ => ⟨S4x128, .i32⟩
  | .hbm, ⟨8, _⟩ => ⟨S8x3600, .i32⟩
  | .hbm, ⟨9, _⟩ => ⟨S8x1x3600, .i32⟩
  | .hbm, ⟨10, _⟩ => ⟨S8x3600, .i32⟩
  | .hbm, ⟨11, _⟩ => ⟨S8x3600, .f32⟩
  | .hbm, ⟨12, _⟩ => ⟨S_, .i32⟩
  | .hbm, ⟨13, _⟩ => ⟨S_, .f32⟩
  | .hbm, ⟨14, _⟩ => ⟨S8x3648, .f32⟩
  | .hbm, ⟨15, _⟩ => ⟨S8x57x64, .f32⟩
  | .hbm, ⟨16, _⟩ => ⟨S8x3600, .i32⟩
  | .hbm, ⟨17, _⟩ => ⟨S8x3600, .f32⟩
  | .hbm, ⟨18, _⟩ => ⟨S_, .i32⟩
  | .hbm, ⟨19, _⟩ => ⟨S_, .f32⟩
  | .hbm, ⟨20, _⟩ => ⟨S8x3648, .f32⟩
  | .hbm, ⟨21, _⟩ => ⟨S8x57x64, .f32⟩
  | .hbm, ⟨22, _⟩ => ⟨S8x3600, .f32⟩
  | .hbm, ⟨23, _⟩ => ⟨S8x1x3600, .f32⟩
  | .hbm, ⟨24, _⟩ => ⟨S8x3600, .i32⟩
  | .hbm, ⟨25, _⟩ => ⟨S8x1x3600, .i32⟩
  | .hbm, ⟨26, _⟩ => ⟨S8x128, .i32⟩
  | .hbm, ⟨27, _⟩ => ⟨S8x1x128, .i32⟩
  | .hbm, ⟨28, _⟩ => ⟨S8x128, .i32⟩
  | .hbm, ⟨29, _⟩ => ⟨S8x128, .i32⟩
  | .hbm, ⟨30, _⟩ => ⟨S4x128, .i32⟩
  | .hbm, ⟨31, _⟩ => ⟨S4x128, .i32⟩
  | .hbm, ⟨32, _⟩ => ⟨S4x128x1, .i32⟩
  | .hbm, ⟨33, _⟩ => ⟨S4x128x1, .i32⟩
  | .hbm, ⟨34, _⟩ => ⟨S4x128x2, .i32⟩
  | .hbm, ⟨35, _⟩ => ⟨S4x128, .i32⟩
  | .hbm, ⟨36, _⟩ => ⟨S4x128, .i32⟩
  | .hbm, ⟨37, _⟩ => ⟨S4x128x1, .i32⟩
  | .hbm, ⟨38, _⟩ => ⟨S4x128x1, .i32⟩
  | .hbm, ⟨39, _⟩ => ⟨S4x128x2, .i32⟩
  | .local _ .vmem, ⟨0, _⟩ => ⟨S8x1x3600, .i32⟩
  | .local _ .vmem, ⟨1, _⟩ => ⟨S8x57x64, .f32⟩
  | .local _ .vmem, ⟨2, _⟩ => ⟨S8x57x64, .f32⟩
  | .local _ .vmem, ⟨3, _⟩ => ⟨S8x1x3600, .f32⟩
  | .local _ .vmem, ⟨4, _⟩ => ⟨S8x1x3600, .i32⟩
  | .local _ .vmem, ⟨5, _⟩ => ⟨S8x1x128, .i32⟩
  | .local _ .vmem, ⟨6, _⟩ => ⟨S8x128, .i32⟩
  | .local _ .vmem, ⟨7, _⟩ => ⟨S8x128, .i32⟩
  | _, _ => ⟨S4x3600, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32_382 : BitVec 32 := 0#32
  let c128_i32_383 : BitVec 32 := 128#32
  let v914 : BitVec 32 := Scalar.addi c0_i32_382 c128_i32_383
  let c1_i32_384 : BitVec 32 := 1#32
  ⟨c0_i32_382, v914, c1_i32_384⟩
abbrev stage0_0 : Fin 1 → Memref sig .tc .vmem S8x1x3600 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x57x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x57x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x3600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x3600 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Least.lean ====
/-
  The first place at which a sequence of extended reals is least (`FirstN`), the two ways in which the programs compute
  it, and what leaves it unchanged: a strictly monotone map of the values, and cutting the sequence in two.
-/
module

public import Idealize.ShloMosaic.Lib.SortNet.Extract
public import Idealize.ShloMosaic.PureOps.Ideal
public import Idealize.ShloMosaic.PureOps.Ideal.Laws
public import Idealize.ShloMosaic.PureOps.Reduce

@[expose] public section

noncomputable section

namespace Cert.Match

open Idealize.ShloMosaic

/-- `c` is the first of the places `0 … n-1` at which `f` is least. -/
def FirstN (f : ℕ → EReal) (n c : ℕ) : Prop := c < n ∧ (∀ j < n, f c ≤ f j) ∧ ∀ j < c, f c < f j

theorem FirstN.unique {f : ℕ → EReal} {n c d : ℕ} (h : FirstN f n c) (h' : FirstN f n d) : c = d := by
  rcases lt_trichotomy c d with hlt | rfl | hlt
  · exact absurd (h.2.1 d h'.1) (not_le.2 (h'.2.2 c hlt))
  · rfl
  · exact absurd (h'.2.1 c h.1) (not_le.2 (h.2.2 d hlt))

/-- The first least place depends on the values at the places only. -/
theorem FirstN.congr {f g : ℕ → EReal} {n c : ℕ} (h : FirstN f n c) (e : ∀ j < n, f j = g j) : FirstN g n c :=
  ⟨h.1, fun j hj => e c h.1 ▸ e j hj ▸ h.2.1 j hj,
    fun j hj => e c h.1 ▸ e j (hj.trans h.1) ▸ h.2.2 j hj⟩

/-- It depends on the order of the values only. -/
theorem FirstN.map {f g : ℕ → EReal} {n c : ℕ} (h : FirstN f n c)
    (e : ∀ i < n, ∀ j < n, f i < f j ↔ g i < g j) : FirstN g n c :=
  ⟨h.1, fun j hj => not_lt.1 fun hl => absurd (h.2.1 j hj) (not_le.2 ((e j hj c h.1).2 hl)),
    fun j hj => (e c h.1 j (hj.trans h.1)).1 (h.2.2 j hj)⟩

/-- The first least place of a sequence cut in two: the second part's when its least value is below the first's. -/
theorem FirstN.append {f : ℕ → EReal} {n m c d : ℕ} (h : FirstN f n c) (h' : FirstN (fun k => f (n + k)) m d) :
    FirstN f (n + m) (if f (n + d) < f c then n + d else c) := by
  have split : ∀ j < n + m, j < n ∨ ∃ k < m, j = n + k := fun j hj =>
    (lt_or_ge j n).imp_right fun hn => ⟨j - n, by omega, by omega⟩
  split_ifs with hl
  · refine ⟨by have := h'.1; omega, fun j hj => ?_, fun j hj => ?_⟩
    · rcases split j hj with hn | ⟨k, hk, rfl⟩
      · exact hl.le.trans (h.2.1 j hn)
      · exact h'.2.1 k hk
    · rcases split j (by have := h'.1; omega) with hn | ⟨k, hk, rfl⟩
      · exact hl.trans_le (h.2.1 j hn)
      · exact h'.2.2 k (by omega)
  · refine ⟨by have := h.1; omega, fun j hj => ?_, h.2.2⟩
    rcases split j hj with hn | ⟨k, hk, rfl⟩
    · exact h.2.1 j hn
    · exact (not_lt.1 hl).trans (h'.2.1 k hk)

/-- There is a first least place among the first `n + 1`. -/
theorem exists_firstN (f : ℕ → EReal) (n : ℕ) : ∃ c, FirstN f (n + 1) c := by
  induction n with
  | zero => exact ⟨0, by omega, fun j hj => by rw [show j = 0 by omega], fun j hj => by omega⟩
  | succ n ih =>
    obtain ⟨c, hc⟩ := ih
    exact ⟨_, hc.append (d := 0) (m := 1) ⟨by omega, fun j hj => by rw [show j = 0 by omega], fun j hj => by omega⟩⟩

/-! ## The least value, and the least of the places where it is taken -/

/-- The minimum of the values, from the top, is the value at the first least place. -/
theorem fold_min_eq {f : ℕ → EReal} {n c : ℕ} (h : FirstN f n c) (v : Fin n → EReal) (hv : ∀ k, v k = f k) :
    (Finset.univ : Finset (Fin n)).fold (FloatOps.minimumf (F := Ideal) (φ := .f32)) (⊤ : EReal) v = f c := by
  refine le_antisymm ((Finset.fold_min_le (f c)).2 (Or.inr ⟨⟨c, h.1⟩, Finset.mem_univ _, (hv _).le⟩))
    ((Finset.le_fold_min (f c)).2 ⟨le_top, fun k _ => (h.2.1 k k.isLt).trans (hv k).ge⟩)

theorem toInt_ofNat_of_lt {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

/-- The least of the places where the least value is taken, `n` standing for a place where it is not, is the first
    least place. -/
theorem fold_minsi_eq {f : ℕ → EReal} {n c : ℕ} (h : FirstN f n c) (hn : n < 2 ^ 31) (w : Fin n → BitVec 32)
    (hw : ∀ k : Fin n, w k = if f k = f c then BitVec.ofNat 32 k else BitVec.ofNat 32 n) :
    (Finset.univ : Finset (Fin n)).fold (IKind.op .minsi) 2147483647#32 w = BitVec.ofNat 32 c := by
  have hc := h.1
  apply BitVec.eq_of_toInt_eq
  rw [← Finset.fold_hom (op := IKind.op .minsi) (op' := (min : ℤ → ℤ → ℤ)) (m := BitVec.toInt)
      (fun a b => SortNet.toInt_minsi a b),
    toInt_ofNat_of_lt (show c < 2 ^ 31 by omega)]
  have hk : ∀ k : Fin n, (w k).toInt = if f k = f c then (k : ℤ) else (n : ℤ) := fun k => by
    rw [hw k]; split_ifs
    · exact toInt_ofNat_of_lt (by omega)
    · exact toInt_ofNat_of_lt hn
  refine le_antisymm ((Finset.fold_min_le _).2 (Or.inr ⟨⟨c, hc⟩, Finset.mem_univ _, ?_⟩))
    ((Finset.le_fold_min _).2 ⟨?_, fun k _ => ?_⟩)
  · rw [hk, if_pos rfl]
  · rw [show (2147483647#32).toInt = 2147483647 by decide]; omega
  · rw [hk]; split_ifs with e
    · by_contra hlt
      exact absurd (h.2.2 k (by omega)) (by rw [e]; exact lt_irrefl _)
    · omega

/-! ## The lexicographic minimum over a list of pairs -/

/-- The order in which a pair of a value and a place comes before another. -/
def Before (p q : EReal × BitVec 32) : Prop := p.1 < q.1 ∨ p.1 = q.1 ∧ p.2.toInt ≤ q.2.toInt

theorem Before.rfl (p : EReal × BitVec 32) : Before p p := Or.inr ⟨Eq.refl _, le_refl _⟩

theorem Before.trans {p q r : EReal × BitVec 32} (h : Before p q) (h' : Before q r) : Before p r := by
  rcases h with h | ⟨e, h⟩ <;> rcases h' with h' | ⟨e', h'⟩
  · exact Or.inl (h.trans h')
  · exact Or.inl (e' ▸ h)
  · exact Or.inl (e ▸ h')
  · exact Or.inr ⟨e.trans e', h.trans h'⟩

/-- A step that picks one of its two pairs, before both, picks from a list a pair before all of them. -/
theorem foldl_before {R : EReal × BitVec 32 → EReal × BitVec 32 → EReal × BitVec 32}
    (hR : ∀ a b, (R a b = a ∨ R a b = b) ∧ Before (R a b) a ∧ Before (R a b) b)
    (l : List (EReal × BitVec 32)) (a : EReal × BitVec 32) :
    (l.foldl R a = a ∨ l.foldl R a ∈ l) ∧ Before (l.foldl R a) a ∧ ∀ p ∈ l, Before (l.foldl R a) p := by
  induction l generalizing a with
  | nil => exact ⟨Or.inl rfl, Before.rfl a, fun p hp => absurd hp List.not_mem_nil⟩
  | cons b l ih =>
    obtain ⟨hm, ha, hl⟩ := ih (R a b)
    obtain ⟨hab, hRa, hRb⟩ := hR a b
    simp only [List.foldl_cons, List.mem_cons]
    refine ⟨?_, ha.trans hRa, fun p hp => hp.elim (fun e => e ▸ ha.trans hRb) (hl p)⟩
    rcases hm with hm | hm
    · rw [hm]; exact hab.imp_right fun e => Or.inl e
    · exact Or.inr (Or.inr hm)

/-- The place the lexicographic minimum gives is the first least place. -/
theorem argmin_eq {s t u : Shape} {axes : List (Fin s.rank)}
    {R : EReal × BitVec 32 → EReal × BitVec 32 → EReal × BitVec 32}
    (hR : ∀ a b, (R a b = a ∨ R a b = b) ∧ Before (R a b) a ∧ Before (R a b) b)
    (x : FVec Ideal s .f32) (y : s.Idx → BitVec 32) (ix : u.Idx → Ideal .f32) (iy : u.Idx → BitVec 32)
    (h : s.ReducesTo axes t) (hu : 0 < u.numel) (j : t.Idx) (hix : ∀ k, ix k = (⊤ : EReal)) (hiy : ∀ k, iy k = 0#32)
    {g : ℕ → EReal} {n c : ℕ} (hf : FirstN g n c) (hn : n < 2 ^ 31) (emb : Fin n → s.Idx)
    (hfib : ∀ i, h.drop i = j ↔ ∃ k, emb k = i) (hx : ∀ k, x (emb k) = g k)
    (hy : ∀ k : Fin n, y (emb k) = BitVec.ofNat 32 k) :
    (Host.argReduce R x y ix iy h hu j).2 = BitVec.ofNat 32 c := by
  have hmem : ∀ p, p ∈ Host.argReduceFiber x y h j ↔ ∃ k : Fin n, p = (g k, BitVec.ofNat 32 k) := fun p => by
    unfold Host.argReduceFiber
    rw [List.mem_map]
    constructor
    · rintro ⟨i, hi, rfl⟩
      obtain ⟨k, hk⟩ := (hfib _).1 (of_decide_eq_true (List.mem_filter.1 hi).2)
      exact ⟨k, by rw [← hk, hx, hy]⟩
    · rintro ⟨k, rfl⟩
      exact ⟨s.rowMajor (emb k), List.mem_filter.2 ⟨List.mem_finRange _,
        decide_eq_true (by rw [Equiv.symm_apply_apply]; exact (hfib _).2 ⟨k, rfl⟩)⟩, by
        rw [Equiv.symm_apply_apply, hx, hy]⟩
  rw [Ideal.argReduce_eq_reduce2, Host.reduce2_eq_foldl_fiber, hix, hiy]
  obtain ⟨hm, _, hall⟩ := foldl_before hR (Host.argReduceFiber x y h j) ((⊤ : EReal), 0#32)
  generalize hr : (Host.argReduceFiber x y h j).foldl R ((⊤ : EReal), 0#32) = r at hm hall
  have hrc := hall _ ((hmem _).2 ⟨⟨c, hf.1⟩, rfl⟩)
  have hc := hf.1
  rcases hm with hm | hm
  · have htop : g c = ⊤ := by
      rcases hrc with hlt | ⟨e, _⟩
      · rw [hm] at hlt; exact absurd hlt not_top_lt
      · rw [hm] at e; exact e.symm
    have : c = 0 := by
      by_contra h0
      exact absurd (hf.2.2 0 (Nat.pos_of_ne_zero h0)) (by rw [htop]; exact not_top_lt)
    rw [hm, this]
  · obtain ⟨k, rfl⟩ := (hmem _).1 hm
    have hk : (k : ℕ) = c := by
      rcases hrc with hlt | ⟨e, hle⟩
      · exact absurd (hf.2.1 k k.isLt) (not_le.2 hlt)
      · simp only [toInt_ofNat_of_lt (show (k : ℕ) < 2 ^ 31 by omega), toInt_ofNat_of_lt (show c < 2 ^ 31 by omega)] at hle
        by_contra hne
        exact absurd (hf.2.2 k (by omega)) (by rw [show g k = g c from e]; exact lt_irrefl _)
    simp only [hk]

/-- The same of an array given as those places. -/
theorem argmin_at {s t u : Shape} {axes : List (Fin s.rank)}
    {R : EReal × BitVec 32 → EReal × BitVec 32 → EReal × BitVec 32} {V : t.Idx → BitVec 32}
    {x : FVec Ideal s .f32} {y : s.Idx → BitVec 32} {ix : u.Idx → Ideal .f32} {iy : u.Idx → BitVec 32}
    {h : s.ReducesTo axes t} {hu : 0 < u.numel} (hV : V = fun j => (Host.argReduce R x y ix iy h hu j).2)
    (hR : ∀ a b, (R a b = a ∨ R a b = b) ∧ Before (R a b) a ∧ Before (R a b) b)
    (j : t.Idx) (hix : ∀ k, ix k = (⊤ : EReal)) (hiy : ∀ k, iy k = 0#32)
    {g : ℕ → EReal} {n c : ℕ} (hf : FirstN g n c) (hn : n < 2 ^ 31) (emb : Fin n → s.Idx)
    (hfib : ∀ i, h.drop i = j ↔ ∃ k, emb k = i) (hx : ∀ k, x (emb k) = g k)
    (hy : ∀ k : Fin n, y (emb k) = BitVec.ofNat 32 k) : V j = BitVec.ofNat 32 c := by
  subst hV
  exact argmin_eq hR x y ix iy h hu j hix hiy hf hn emb hfib hx hy

end Cert.Match

end
-- ==== Proof.Bounds.lean ====
/-
  How large a squared distance of unit vectors can be, and what a square root does to the order

An entry of a row divided by the row's Euclidean norm is an infinity or a real of absolute value at most one.
Sums of 384 products of two such entries are then an infinity or a real of absolute value at most 384, and a
squared distance, clamped at zero, is `⊤` or a real between 0 and 1536.  On these values and on the number that
marks an invalid pair, the square root keeps the order; so the least entry of the rooted table stands where the
least entry of the unrooted one stands. -/
module

public import Idealize.ShloMosaic.PureOps.Ideal
public import Idealize.ShloMosaic.PureOps.Ideal.Laws

@[expose] public section

noncomputable section

namespace Cert.Match

open Idealize.ShloMosaic

/-- An infinity, or a real of absolute value at most `B`. -/
def Tame (B : ℝ) (x : EReal) : Prop := x = ⊤ ∨ x = ⊥ ∨ ∃ r : ℝ, x = (r : EReal) ∧ |r| ≤ B

theorem Tame.real {B r : ℝ} (h : |r| ≤ B) : Tame B (r : EReal) := Or.inr (Or.inr ⟨r, rfl, h⟩)

theorem Tame.zero {B : ℝ} (hB : 0 ≤ B) : Tame B 0 := by
  have := Tame.real (B := B) (r := 0) (by simpa using hB)
  simpa using this

theorem Tame.add {B C : ℝ} {x y : EReal} (hx : Tame B x) (hy : Tame C y) : Tame (B + C) (x + y) := by
  rcases hy with rfl | rfl | ⟨s, rfl, hs⟩
  · rcases hx with rfl | rfl | ⟨r, rfl, hr⟩
    · left; rfl
    · right; left; rfl
    · left; rfl
  · right; left; exact EReal.add_bot _
  · rcases hx with rfl | rfl | ⟨r, rfl, hr⟩
    · left; rfl
    · right; left; rfl
    · rw [← EReal.coe_add]; exact .real ((abs_add_le r s).trans (add_le_add hr hs))

theorem Tame.neg {B : ℝ} {x : EReal} (hx : Tame B x) : Tame B (-x) := by
  rcases hx with rfl | rfl | ⟨r, rfl, hr⟩
  · right; left; rfl
  · left; rfl
  · rw [← EReal.coe_neg]; exact .real (by rwa [abs_neg])

theorem Tame.sub {B C : ℝ} {x y : EReal} (hx : Tame B x) (hy : Tame C y) : Tame (B + C) (x - y) := by
  rw [sub_eq_add_neg]; exact hx.add hy.neg

/-- An infinity times a real. -/
theorem Tame.top_mul {B : ℝ} (hB : 0 ≤ B) (s : ℝ) : Tame B (⊤ * (s : EReal)) := by
  rcases lt_trichotomy s 0 with h | h | h
  · right; left; exact EReal.top_mul_coe_of_neg h
  · subst h; rw [EReal.coe_zero, mul_zero]; exact .zero hB
  · left; exact EReal.top_mul_coe_of_pos h

theorem Tame.bot_mul {B : ℝ} (hB : 0 ≤ B) (s : ℝ) : Tame B (⊥ * (s : EReal)) := by
  rcases lt_trichotomy s 0 with h | h | h
  · left; exact EReal.bot_mul_coe_of_neg h
  · subst h; rw [EReal.coe_zero, mul_zero]; exact .zero hB
  · right; left; exact EReal.bot_mul_coe_of_pos h

theorem Tame.mul {B C : ℝ} (hB : 0 ≤ B) (hC : 0 ≤ C) {x y : EReal} (hx : Tame B x) (hy : Tame C y) :
    Tame (B * C) (x * y) := by
  have hBC := mul_nonneg hB hC
  rcases hx with rfl | rfl | ⟨r, rfl, hr⟩ <;> rcases hy with rfl | rfl | ⟨s, rfl, hs⟩
  · left; exact EReal.top_mul_top
  · right; left; exact EReal.top_mul_bot
  · exact .top_mul hBC s
  · right; left; exact EReal.bot_mul_top
  · left; exact EReal.bot_mul_bot
  · exact .bot_mul hBC s
  · rw [mul_comm (r : EReal)]; exact .top_mul hBC r
  · rw [mul_comm (r : EReal)]; exact .bot_mul hBC r
  · rw [← EReal.coe_mul]; exact .real (by rw [abs_mul]; exact mul_le_mul hr hs (abs_nonneg _) hB)

theorem Tame.sum {B : ℝ} {ι : Type} (s : Finset ι) (f : ι → EReal) (h : ∀ k, Tame B (f k)) :
    Tame (s.card * B) (∑ k ∈ s, f k) := by
  classical
  induction s using Finset.induction_on with
  | empty => simpa using Tame.zero (B := (0 : ℝ)) le_rfl
  | insert a s ha ih =>
    rw [Finset.sum_insert ha, Finset.card_insert_of_notMem ha]
    have := (h a).add ih
    rw [show B + s.card * B = ((s.card + 1 : ℕ) : ℝ) * B by push_cast; ring] at this
    exact this

/-- A square is not negative, at the infinities too. -/
theorem mul_self_nonneg_ereal (x : EReal) : 0 ≤ x * x := by
  induction x with
  | bot => rw [EReal.bot_mul_bot]; exact le_top
  | top => rw [EReal.top_mul_top]; exact le_top
  | coe r => rw [← EReal.coe_mul]; exact_mod_cast mul_self_nonneg r

/-- An entry of a row divided by the square root of the row's sum of squares. -/
theorem tame_div_norm {n : ℕ} (y : Fin n → EReal) (k : Fin n) :
    Tame 1 (Ideal.div (y k) (Ideal.sqrt (∑ j, y j * y j))) := by
  have hle : y k * y k ≤ ∑ j, y j * y j :=
    Finset.single_le_sum (f := fun j => y j * y j) (fun j _ => mul_self_nonneg_ereal (y j)) (Finset.mem_univ k)
  have h0 : 0 ≤ ∑ j, y j * y j := (mul_self_nonneg_ereal (y k)).trans hle
  generalize (∑ j, y j * y j) = s at hle h0
  generalize y k = x at hle
  induction s with
  | bot => exact absurd h0 (by simp)
  | top =>
    show Tame 1 (Ideal.div x ⊤)
    rw [Ideal.div, if_neg (by simp), EReal.inv_top, mul_zero]
    exact .zero zero_le_one
  | coe r =>
    have hr : 0 ≤ r := by exact_mod_cast h0
    show Tame 1 (Ideal.div x (if r < 0 then ⊥ else ((Real.sqrt r : ℝ) : EReal)))
    rw [if_neg (not_lt.2 hr), Ideal.div]
    split
    · split
      · left; rfl
      · right; left; rfl
    · rename_i hne
      have hs : 0 < Real.sqrt r := lt_of_le_of_ne (Real.sqrt_nonneg r) fun e => hne (by rw [← e]; rfl)
      induction x with
      | bot => rw [EReal.bot_mul_bot] at hle; exact absurd hle (by simp)
      | top => rw [EReal.top_mul_top] at hle; exact absurd hle (by simp)
      | coe v =>
        have hv : v * v ≤ r := by exact_mod_cast hle
        rw [← EReal.coe_inv, ← EReal.coe_mul]
        refine .real ?_
        rw [abs_mul, abs_of_pos (inv_pos.2 hs), ← div_eq_mul_inv, div_le_one hs]
        exact Real.abs_le_sqrt (by rw [pow_two]; exact hv)

/-- What a clamped squared distance can be. -/
def IsDist (d : EReal) : Prop := d = ⊤ ∨ ∃ r : ℝ, d = (r : EReal) ∧ 0 ≤ r ∧ r ≤ 1536

theorem isDist_max {d : EReal} (h : Tame 1536 d) : IsDist (max d 0) := by
  rcases h with rfl | rfl | ⟨r, rfl, hr⟩
  · left; simp
  · right; exact ⟨0, by simp, le_rfl, by norm_num⟩
  · right
    refine ⟨max r 0, ?_, le_max_right _ _, max_le ((le_abs_self r).trans hr) (by norm_num)⟩
    exact (EReal.coe_strictMono.monotone.map_max (a := r) (b := 0)).symm

/-! ## The literals -/

theorem big_eq : Ideal.ofBits .f32 0x56B5E621#32 = ((100000000376832 : ℝ) : EReal) := by
  simp [Ideal.ofBits, Ideal.ieee, -EReal.coe_mul]; norm_num

theorem bigRoot_eq : Ideal.ofBits .f32 0x4B189680#32 = ((10000000 : ℝ) : EReal) := by
  simp [Ideal.ofBits, Ideal.ieee, -EReal.coe_mul]

theorem two_eq : Ideal.ofBits .f32 0x40000000#32 = ((2 : ℝ) : EReal) := by
  simp [Ideal.ofBits, Ideal.ieee, -EReal.coe_mul]; norm_num

theorem inf_eq : Ideal.ofBits .f32 0x7F800000#32 = ⊤ := by
  simp [Ideal.ofBits, Ideal.ieee]

/-! ## The square root and the order -/

theorem sqrt_real {r : ℝ} (h : 0 ≤ r) : Ideal.sqrt (r : EReal) = ((Real.sqrt r : ℝ) : EReal) :=
  if_neg (not_lt.2 h)

theorem sqrt_lt_thousand {r : ℝ} (h : r ≤ 1536) : Real.sqrt r < 1000 := by
  rw [Real.sqrt_lt' (by norm_num)]
  linarith

/-- The square root keeps the order of clamped squared distances and of the mark of an invalid pair, whose value
in the rooted table is another number. -/
theorem key_order {p q : BitVec 1} {d e : EReal} (hd : IsDist d) (he : IsDist e) :
    Scalar.select p d (Ideal.ofBits .f32 0x56B5E621#32) < Scalar.select q e (Ideal.ofBits .f32 0x56B5E621#32)
      ↔ Scalar.select p (Ideal.sqrt d) (Ideal.ofBits .f32 0x4B189680#32)
        < Scalar.select q (Ideal.sqrt e) (Ideal.ofBits .f32 0x4B189680#32) := by
  have htop : Ideal.sqrt ⊤ = ⊤ := rfl
  rw [big_eq, bigRoot_eq]
  unfold Scalar.select
  by_cases hp : p = 1 <;> by_cases hq : q = 1 <;>
    simp only [hp, hq, if_true, if_false, reduceIte, lt_self_iff_false]
  · rcases hd with rfl | ⟨r, rfl, hr, hr'⟩
    · rw [htop]; simp
    · rcases he with rfl | ⟨s, rfl, hs, hs'⟩
      · rw [htop, sqrt_real hr]; simp [EReal.coe_lt_top]
      · rw [sqrt_real hr, sqrt_real hs, EReal.coe_lt_coe_iff, EReal.coe_lt_coe_iff]
        exact (Real.sqrt_lt_sqrt_iff hr).symm
  · rcases hd with rfl | ⟨r, rfl, hr, hr'⟩
    · rw [htop]; simp
    · rw [sqrt_real hr, EReal.coe_lt_coe_iff, EReal.coe_lt_coe_iff]
      have := sqrt_lt_thousand hr'
      exact ⟨fun _ => by linarith, fun _ => by linarith⟩
  · rcases he with rfl | ⟨s, rfl, hs, hs'⟩
    · rw [htop]; simp [EReal.coe_lt_top]
    · rw [sqrt_real hs, EReal.coe_lt_coe_iff, EReal.coe_lt_coe_iff]
      have := sqrt_lt_thousand hs'
      exact ⟨fun _ => by linarith, fun _ => by linarith⟩

end Cert.Match
-- ==== Proof.ReferenceRun.lean ====
/-
The reference as a list of its host operations and its run read back: every run ends with each result at the
composed term of the arguments and with the arguments unchanged. Each result's term has a name, `res_main_v…`.
-/
module

public import proofs.«01_k».proof.Proof.Gen.ReferenceIdeal
public import Idealize.ShloMosaic.Lib.StableHlo.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 83 operations, in order (a called function's operations stand in its call's place, spelt `TRef.…`). -/
abbrev ops : List (HloOp τ sig (Elt F)) :=
  [ TRef.binary (TRef.of (T := ⟨S4x60x60x384, .f32⟩) main_arg0) (TRef.of (T := ⟨S4x60x60x384, .f32⟩) main_arg0) (TRef.of (T := ⟨S4x60x60x384, .f32⟩) main_call0_v0) mulf,
    TRef.nullary (TRef.of (T := ⟨S_, .f32⟩) main_call0_cst) (constant S_ .f32 0x00000000#32),
    TRef.binary (TRef.of (T := ⟨S4x60x60x384, .f32⟩) main_call0_v0) (TRef.of (T := ⟨S_, .f32⟩) main_call0_cst) (TRef.of (T := ⟨S4x60x60, .f32⟩) main_call0_v1) (fun x v => Host.reduceAdd x v reducesTo_S4x60x60x384_S4x60x60_d3 h_S_),
    TRef.unary (TRef.of (T := ⟨S4x60x60, .f32⟩) main_call0_v1) (TRef.of (T := ⟨S4x60x60x1, .f32⟩) main_call0_v2) (broadcastInDim S4x60x60x1 ![0, 1, 2] bcast_S4x60x60_S4x60x60x1_0_1_2),
    TRef.unary (TRef.of (T := ⟨S4x60x60x1, .f32⟩) main_call0_v2) (TRef.of (T := ⟨S4x60x60x1, .f32⟩) main_v0) Host.sqrt,
    unary main_v0 main_v1 (broadcastInDim S4x60x60x384 ![0, 1, 2, 3] bcast_S4x60x60x1_S4x60x60x384_0_1_2_3 : (⟨S4x60x60x1, .f32⟩ : BufTy).Contents (Elt F) → (⟨S4x60x60x384, .f32⟩ : BufTy).Contents (Elt F)),
    binary main_arg0 main_v1 main_v2 (Host.divf : (⟨S4x60x60x384, .f32⟩ : BufTy).Contents (Elt F) → (⟨S4x60x60x384, .f32⟩ : BufTy).Contents (Elt F) → (⟨S4x60x60x384, .f32⟩ : BufTy).Contents (Elt F)),
    TRef.binary (TRef.of (T := ⟨S4x60x60x384, .f32⟩) main_arg1) (TRef.of (T := ⟨S4x60x60x384, .f32⟩) main_arg1) (TRef.of (T := ⟨S4x60x60x384, .f32⟩) main_call1_v0) mulf,
    TRef.nullary (TRef.of (T := ⟨S_, .f32⟩) main_call1_cst) (constant S_ .f32 0x00000000#32),
    TRef.binary (TRef.of (T := ⟨S4x60x60x384, .f32⟩) main_call1_v0) (TRef.of (T := ⟨S_, .f32⟩) main_call1_cst) (TRef.of (T := ⟨S4x60x60, .f32⟩) main_call1_v1) (fun x v => Host.reduceAdd x v reducesTo_S4x60x60x384_S4x60x60_d3 h_S_),
    TRef.unary (TRef.of (T := ⟨S4x60x60, .f32⟩) main_call1_v1) (TRef.of (T := ⟨S4x60x60x1, .f32⟩) main_call1_v2) (broadcastInDim S4x60x60x1 ![0, 1, 2] bcast_S4x60x60_S4x60x60x1_0_1_2),
    TRef.unary (TRef.of (T := ⟨S4x60x60x1, .f32⟩) main_call1_v2) (TRef.of (T := ⟨S4x60x60x1, .f32⟩) main_v3) Host.sqrt,
    unary main_v3 main_v4 (broadcastInDim S4x60x60x384 ![0, 1, 2, 3] bcast_S4x60x60x1_S4x60x60x384_0_1_2_3 : (⟨S4x60x60x1, .f32⟩ : BufTy).Contents (Elt F) → (⟨S4x60x60x384, .f32⟩ : BufTy).Contents (Elt F)),
    binary main_arg1 main_v4 main_v5 (Host.divf : (⟨S4x60x60x384, .f32⟩ : BufTy).Contents (Elt F) → (⟨S4x60x60x384, .f32⟩ : BufTy).Contents (Elt F) → (⟨S4x60x60x384, .f32⟩ : BufTy).Contents (Elt F)),
    reshape main_arg2 main_v6 (rfl : (.i32 : EltTy) = .i32) shapeCasts_S4x60x60x1_S4x3600,
    nullary main_c (constantI S_ 32 0#32),
    unary main_c main_v7 (broadcastInDim S4x3600 ![] bcast_S_S4x3600 : (⟨S_, .i32⟩ : BufTy).Contents (Elt F) → (⟨S4x3600, .i32⟩ : BufTy).Contents (Elt F)),
    binary main_v6 main_v7 main_v8 (cmpi .sgt : (⟨S4x3600, .i32⟩ : BufTy).Contents (Elt F) → (⟨S4x3600, .i32⟩ : BufTy).Contents (Elt F) → (⟨S4x3600, .i1⟩ : BufTy).Contents (Elt F)),
    reshape main_arg3 main_v9 (rfl : (.i32 : EltTy) = .i32) shapeCasts_S4x60x60x1_S4x3600,
    nullary main_c_0 (constantI S_ 32 0#32),
    unary main_c_0 main_v10 (broadcastInDim S4x3600 ![] bcast_S_S4x3600 : (⟨S_, .i32⟩ : BufTy).Contents (Elt F) → (⟨S4x3600, .i32⟩ : BufTy).Contents (Elt F)),
    binary main_v9 main_v10 main_v11 (cmpi .sgt : (⟨S4x3600, .i32⟩ : BufTy).Contents (Elt F) → (⟨S4x3600, .i32⟩ : BufTy).Contents (Elt F) → (⟨S4x3600, .i1⟩ : BufTy).Contents (Elt F)),
    unary main_v8 main_v12 (broadcastInDim S4x3600x1 ![0, 1] bcast_S4x3600_S4x3600x1_0_1 : (⟨S4x3600, .i1⟩ : BufTy).Contents (Elt F) → (⟨S4x3600x1, .i1⟩ : BufTy).Contents (Elt F)),
    reshape main_v2 main_v13 (rfl : (.f32 : EltTy) = .f32) shapeCasts_S4x60x60x384_S4x3600x384,
    nullary main_cst (constant S_ .f32 0x00000000#32),
    TRef.unary (TRef.of (T := ⟨S_, .f32⟩) main_cst) (TRef.of (T := ⟨S_, .f32⟩) main_call2_v0) id,
    TRef.unary (TRef.of (T := ⟨S4x3600x1, .i1⟩) main_v12) (TRef.of (T := ⟨S4x3600x384, .i1⟩) main_call2_v1) (broadcastInDim S4x3600x384 ![0, 1, 2] bcast_S4x3600x1_S4x3600x384_0_1_2),
    TRef.unary (TRef.of (T := ⟨S_, .f32⟩) main_call2_v0) (TRef.of (T := ⟨S4x3600x384, .f32⟩) main_call2_v2) (broadcastInDim S4x3600x384 ![] bcast_S_S4x3600x384),
    TRef.ternary (TRef.of (T := ⟨S4x3600x384, .i1⟩) main_call2_v1) (TRef.of (T := ⟨S4x3600x384, .f32⟩) main_v13) (TRef.of (T := ⟨S4x3600x384, .f32⟩) main_call2_v2) (TRef.of (T := ⟨S4x3600x384, .f32⟩) main_v14) select,
    unary main_v11 main_v15 (broadcastInDim S4x3600x1 ![0, 1] bcast_S4x3600_S4x3600x1_0_1 : (⟨S4x3600, .i1⟩ : BufTy).Contents (Elt F) → (⟨S4x3600x1, .i1⟩ : BufTy).Contents (Elt F)),
    reshape main_v5 main_v16 (rfl : (.f32 : EltTy) = .f32) shapeCasts_S4x60x60x384_S4x3600x384,
    nullary main_cst_1 (constant S_ .f32 0x00000000#32),
    TRef.unary (TRef.of (T := ⟨S_, .f32⟩) main_cst_1) (TRef.of (T := ⟨S_, .f32⟩) main_call3_v0) id,
    TRef.unary (TRef.of (T := ⟨S4x3600x1, .i1⟩) main_v15) (TRef.of (T := ⟨S4x3600x384, .i1⟩) main_call3_v1) (broadcastInDim S4x3600x384 ![0, 1, 2] bcast_S4x3600x1_S4x3600x384_0_1_2),
    TRef.unary (TRef.of (T := ⟨S_, .f32⟩) main_call3_v0) (TRef.of (T := ⟨S4x3600x384, .f32⟩) main_call3_v2) (broadcastInDim S4x3600x384 ![] bcast_S_S4x3600x384),
    TRef.ternary (TRef.of (T := ⟨S4x3600x384, .i1⟩) main_call3_v1) (TRef.of (T := ⟨S4x3600x384, .f32⟩) main_v16) (TRef.of (T := ⟨S4x3600x384, .f32⟩) main_call3_v2) (TRef.of (T := ⟨S4x3600x384, .f32⟩) main_v17) select,
    binary main_v14 main_v14 main_v18 (mulf : (⟨S4x3600x384, .f32⟩ : BufTy).Contents (Elt F) → (⟨S4x3600x384, .f32⟩ : BufTy).Contents (Elt F) → (⟨S4x3600x384, .f32⟩ : BufTy).Contents (Elt F)),
    nullary main_cst_2 (constant S_ .f32 0x00000000#32),
    binary main_v18 main_cst_2 main_v19 ((fun x v => Host.reduceAdd x v reducesTo_S4x3600x384_S4x3600_d2 h_S_) : (⟨S4x3600x384, .f32⟩ : BufTy).Contents (Elt F) → (⟨S_, .f32⟩ : BufTy).Contents (Elt F) → (⟨S4x3600, .f32⟩ : BufTy).Contents (Elt F)),
    binary main_v17 main_v17 main_v20 (mulf : (⟨S4x3600x384, .f32⟩ : BufTy).Contents (Elt F) → (⟨S4x3600x384, .f32⟩ : BufTy).Contents (Elt F) → (⟨S4x3600x384, .f32⟩ : BufTy).Contents (Elt F)),
    nullary main_cst_3 (constant S_ .f32 0x00000000#32),
    binary main_v20 main_cst_3 main_v21 ((fun x v => Host.reduceAdd x v reducesTo_S4x3600x384_S4x3600_d2 h_S_) : (⟨S4x3600x384, .f32⟩ : BufTy).Contents (Elt F) → (⟨S_, .f32⟩ : BufTy).Contents (Elt F) → (⟨S4x3600, .f32⟩ : BufTy).Contents (Elt F)),
    unary main_v19 main_v22 (broadcastInDim S4x3600x1 ![0, 1] bcast_S4x3600_S4x3600x1_0_1 : (⟨S4x3600, .f32⟩ : BufTy).Contents (Elt F) → (⟨S4x3600x1, .f32⟩ : BufTy).Contents (Elt F)),
    unary main_v21 main_v23 (broadcastInDim S4x1x3600 ![0, 2] bcast_S4x3600_S4x1x3600_0_2 : (⟨S4x3600, .f32⟩ : BufTy).Contents (Elt F) → (⟨S4x1x3600, .f32⟩ : BufTy).Contents (Elt F)),
    unary main_v22 main_v24 (broadcastInDim S4x3600x3600 ![0, 1, 2] bcast_S4x3600x1_S4x3600x3600_0_1_2 : (⟨S4x3600x1, .f32⟩ : BufTy).Contents (Elt F) → (⟨S4x3600x3600, .f32⟩ : BufTy).Contents (Elt F)),
    unary main_v23 main_v25 (broadcastInDim S4x3600x3600 ![0, 1, 2] bcast_S4x1x3600_S4x3600x3600_0_1_2 : (⟨S4x1x3600, .f32⟩ : BufTy).Contents (Elt F) → (⟨S4x3600x3600, .f32⟩ : BufTy).Contents (Elt F)),
    binary main_v24 main_v25 main_v26 (addf : (⟨S4x3600x3600, .f32⟩ : BufTy).Contents (Elt F) → (⟨S4x3600x3600, .f32⟩ : BufTy).Contents (Elt F) → (⟨S4x3600x3600, .f32⟩ : BufTy).Contents (Elt F)),
    binary main_v14 main_v17 main_v27 ((fun l r => Host.dotGeneral dot_S4x3600x384_S4x3600x384_S4x3600x3600_2_2_1_1_0_0 none l r) : (⟨S4x3600x384, .f32⟩ : BufTy).Contents (Elt F) → (⟨S4x3600x384, .f32⟩ : BufTy).Contents (Elt F) → (⟨S4x3600x3600, .f32⟩ : BufTy).Contents (Elt F)),
    nullary main_cst_4 (constant S_ .f32 0x40000000#32),
    unary main_cst_4 main_v28 (broadcastInDim S4x3600x3600 ![] bcast_S_S4x3600x3600 : (⟨S_, .f32⟩ : BufTy).Contents (Elt F) → (⟨S4x3600x3600, .f32⟩ : BufTy).Contents (Elt F)),
    binary main_v28 main_v27 main_v29 (mulf : (⟨S4x3600x3600, .f32⟩ : BufTy).Contents (Elt F) → (⟨S4x3600x3600, .f32⟩ : BufTy).Contents (Elt F) → (⟨S4x3600x3600, .f32⟩ : BufTy).Contents (Elt F)),
    binary main_v26 main_v29 main_v30 (subf : (⟨S4x3600x3600, .f32⟩ : BufTy).Contents (Elt F) → (⟨S4x3600x3600, .f32⟩ : BufTy).Contents (Elt F) → (⟨S4x3600x3600, .f32⟩ : BufTy).Contents (Elt F)),
    nullary main_cst_5 (constant S_ .f32 0x00000000#32),
    unary main_cst_5 main_v31 (broadcastInDim S4x3600x3600 ![] bcast_S_S4x3600x3600 : (⟨S_, .f32⟩ : BufTy).Contents (Elt F) → (⟨S4x3600x3600, .f32⟩ : BufTy).Contents (Elt F)),
    binary main_v30 main_v31 main_v32 (maximumf : (⟨S4x3600x3600, .f32⟩ : BufTy).Contents (Elt F) → (⟨S4x3600x3600, .f32⟩ : BufTy).Contents (Elt F) → (⟨S4x3600x3600, .f32⟩ : BufTy).Contents (Elt F)),
    unary main_v8 main_v33 (broadcastInDim S4x3600x1 ![0, 1] bcast_S4x3600_S4x3600x1_0_1 : (⟨S4x3600, .i1⟩ : BufTy).Contents (Elt F) → (⟨S4x3600x1, .i1⟩ : BufTy).Contents (Elt F)),
    unary main_v11 main_v34 (broadcastInDim S4x1x3600 ![0, 2] bcast_S4x3600_S4x1x3600_0_2 : (⟨S4x3600, .i1⟩ : BufTy).Contents (Elt F) → (⟨S4x1x3600, .i1⟩ : BufTy).Contents (Elt F)),
    unary main_v33 main_v35 (broadcastInDim S4x3600x3600 ![0, 1, 2] bcast_S4x3600x1_S4x3600x3600_0_1_2 : (⟨S4x3600x1, .i1⟩ : BufTy).Contents (Elt F) → (⟨S4x3600x3600, .i1⟩ : BufTy).Contents (Elt F)),
    unary main_v34 main_v36 (broadcastInDim S4x3600x3600 ![0, 1, 2] bcast_S4x1x3600_S4x3600x3600_0_1_2 : (⟨S4x1x3600, .i1⟩ : BufTy).Contents (Elt F) → (⟨S4x3600x3600, .i1⟩ : BufTy).Contents (Elt F)),
    binary main_v35 main_v36 main_v37 (andi : (⟨S4x3600x3600, .i1⟩ : BufTy).Contents (Elt F) → (⟨S4x3600x3600, .i1⟩ : BufTy).Contents (Elt F) → (⟨S4x3600x3600, .i1⟩ : BufTy).Contents (Elt F)),
    unary main_v32 main_v38 (Host.sqrt : (⟨S4x3600x3600, .f32⟩ : BufTy).Contents (Elt F) → (⟨S4x3600x3600, .f32⟩ : BufTy).Contents (Elt F)),
    nullary main_cst_6 (constant S_ .f32 0x4B189680#32),
    TRef.unary (TRef.of (T := ⟨S_, .f32⟩) main_cst_6) (TRef.of (T := ⟨S_, .f32⟩) main_call4_v0) id,
    TRef.unary (TRef.of (T := ⟨S_, .f32⟩) main_call4_v0) (TRef.of (T := ⟨S4x3600x3600, .f32⟩) main_call4_v1) (broadcastInDim S4x3600x3600 ![] bcast_S_S4x3600x3600),
    TRef.ternary (TRef.of (T := ⟨S4x3600x3600, .i1⟩) main_v37) (TRef.of (T := ⟨S4x3600x3600, .f32⟩) main_v38) (TRef.of (T := ⟨S4x3600x3600, .f32⟩) main_call4_v1) (TRef.of (T := ⟨S4x3600x3600, .f32⟩) main_v39) select,
    TRef.nullary (TRef.of (T := ⟨S4x3600x3600, .i32⟩) main_call5_v0) (iotaInDim S4x3600x3600 32 2),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S4x3600x3600, .f32⟩) main_v39) (TRef.of (T := ⟨S4x3600x3600, .i32⟩) main_call5_v0) (TRef.of (T := ⟨S_, .f32⟩) main_call5_cst) (TRef.of (T := ⟨S_, .i32⟩) main_call5_c) (TRef.of (T := ⟨S4x3600, .f32⟩) main_call5_v1_0) (fun x y u v j => (Host.argReduce reducer_argmin_f32_i32 x y u v reducesTo_S4x3600x3600_S4x3600_d2 h_S_ j).1),
    TRef.quaternary (TRef.of (T := ⟨S4x3600x3600, .f32⟩) main_v39) (TRef.of (T := ⟨S4x3600x3600, .i32⟩) main_call5_v0) (TRef.of (T := ⟨S_, .f32⟩) main_call5_cst) (TRef.of (T := ⟨S_, .i32⟩) main_call5_c) (TRef.of (T := ⟨S4x3600, .i32⟩) main_v40) (fun x y u v j => (Host.argReduce reducer_argmin_f32_i32 x y u v reducesTo_S4x3600x3600_S4x3600_d2 h_S_ j).2),
    TRef.nullary (TRef.of (T := ⟨S4x3600x3600, .i32⟩) main_call6_v0) (iotaInDim S4x3600x3600 32 1),
    TRef.nullary (TRef.of (T := ⟨S_, .f32⟩) main_call6_cst) (constant S_ .f32 0x7F800000#32),
    TRef.nullary (TRef.of (T := ⟨S_, .i32⟩) main_call6_c) (constantI S_ 32 0#32),
    TRef.quaternary (TRef.of (T := ⟨S4x3600x3600, .f32⟩) main_v39) (TRef.of (T := ⟨S4x3600x3600, .i32⟩) main_call6_v0) (TRef.of (T := ⟨S_, .f32⟩) main_call6_cst) (TRef.of (T := ⟨S_, .i32⟩) main_call6_c) (TRef.of (T := ⟨S4x3600, .f32⟩) main_call6_v1_0) (fun x y u v j => (Host.argReduce reducer_argmin_f32_i32 x y u v reducesTo_S4x3600x3600_S4x3600_d1 h_S_ j).1),
    TRef.quaternary (TRef.of (T := ⟨S4x3600x3600, .f32⟩) main_v39) (TRef.of (T := ⟨S4x3600x3600, .i32⟩) main_call6_v0) (TRef.of (T := ⟨S_, .f32⟩) main_call6_cst) (TRef.of (T := ⟨S_, .i32⟩) main_call6_c) (TRef.of (T := ⟨S4x3600, .i32⟩) main_v41) (fun x y u v j => (Host.argReduce reducer_argmin_f32_i32 x y u v reducesTo_S4x3600x3600_S4x3600_d1 h_S_ j).2),
    nullary main_cst_7 (constant S_ .f32 0x56B5E621#32),
    TRef.unary (TRef.of (T := ⟨S_, .f32⟩) main_cst_7) (TRef.of (T := ⟨S_, .f32⟩) main_call7_v0) id,
    TRef.unary (TRef.of (T := ⟨S_, .f32⟩) main_call7_v0) (TRef.of (T := ⟨S4x3600x3600, .f32⟩) main_call7_v1) (broadcastInDim S4x3600x3600 ![] bcast_S_S4x3600x3600),
    TRef.ternary (TRef.of (T := ⟨S4x3600x3600, .i1⟩) main_v37) (TRef.of (T := ⟨S4x3600x3600, .f32⟩) main_v32) (TRef.of (T := ⟨S4x3600x3600, .f32⟩) main_call7_v1) (TRef.of (T := ⟨S4x3600x3600, .f32⟩) main_v42) select,
    nullary main_cst_8 (constant S_ .f32 0x7F800000#32),
    binary main_v42 main_cst_8 main_v43 ((fun x v => Host.reduce FloatOps.minimumf x v reducesTo_S4x3600x3600_S4x3600_d2 h_S_) : (⟨S4x3600x3600, .f32⟩ : BufTy).Contents (Elt F) → (⟨S_, .f32⟩ : BufTy).Contents (Elt F) → (⟨S4x3600, .f32⟩ : BufTy).Contents (Elt F)),
    nullary main_cst_9 (constant S_ .f32 0x7F800000#32),
    binary main_v42 main_cst_9 main_v44 ((fun x v => Host.reduce FloatOps.minimumf x v reducesTo_S4x3600x3600_S4x3600_d1 h_S_) : (⟨S4x3600x3600, .f32⟩ : BufTy).Contents (Elt F) → (⟨S_, .f32⟩ : BufTy).Contents (Elt F) → (⟨S4x3600, .f32⟩ : BufTy).Contents (Elt F)) ]

set_option maxRecDepth 8192 in
set_option maxHeartbeats 4000000 in
theorem main_eq (c : Dev nD) : main (F := F) c = seq ops := by
  simp only [main, fn_norm.body, fn_where.body, fn_where_0.body, fn_argmin.body, fn_argmin_1.body, ops, seq, bind_assoc,
    pure_bind]
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., reshape_bufs_sub .., nullary_bufs_sub .., unary_bufs_sub .., binary_bufs_sub .., reshape_bufs_sub .., nullary_bufs_sub .., unary_bufs_sub .., binary_bufs_sub .., unary_bufs_sub .., reshape_bufs_sub .., nullary_bufs_sub .., unary_bufs_sub .., unary_bufs_sub .., unary_bufs_sub .., ternary_bufs_sub .., unary_bufs_sub .., reshape_bufs_sub .., nullary_bufs_sub .., unary_bufs_sub .., unary_bufs_sub .., unary_bufs_sub .., ternary_bufs_sub .., binary_bufs_sub .., nullary_bufs_sub .., binary_bufs_sub .., binary_bufs_sub .., nullary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., binary_bufs_sub .., unary_bufs_sub .., nullary_bufs_sub .., unary_bufs_sub .., unary_bufs_sub .., ternary_bufs_sub .., nullary_bufs_sub .., nullary_bufs_sub .., nullary_bufs_sub .., quaternary_bufs_sub .., quaternary_bufs_sub .., nullary_bufs_sub .., nullary_bufs_sub .., nullary_bufs_sub .., quaternary_bufs_sub .., quaternary_bufs_sub .., nullary_bufs_sub .., unary_bufs_sub .., unary_bufs_sub .., ternary_bufs_sub .., nullary_bufs_sub .., binary_bufs_sub .., nullary_bufs_sub .., binary_bufs_sub ..⟩

set_option maxRecDepth 8192 in
/-- `main_v44`'s composed term of the arguments (named: it is long). -/
def res_main_v44 (m : (ℓ : Loc nD τ sig) → Buf (Elt F) ℓ) (c : Dev nD) : Buf (Elt F) ((c.tc : Thread nD τ).loc main_v44) :=
  Host.reduce FloatOps.minimumf (select (andi (broadcastInDim S4x3600x3600 ![0, 1, 2] bcast_S4x3600x1_S4x3600x3600_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (broadcastInDim S4x3600x3600 ![0, 1, 2] bcast_S4x1x3600_S4x3600x3600_0_1_2 (broadcastInDim S4x1x3600 ![0, 2] bcast_S4x3600_S4x1x3600_0_2 (cmpi .sgt (shapeCast _ (m ((c.tc : Thread nD τ).loc main_arg3)) shapeCasts_S4x60x60x1_S4x3600) (broadcastInDim S4x3600 ![] bcast_S_S4x3600 (constantI S_ 32 0#32)))))) (maximumf (subf (addf (broadcastInDim S4x3600x3600 ![0, 1, 2] bcast_S4x3600x1_S4x3600x3600_0_1_2 (broadcastInDim S4x3600x1 ![0, 1] bcast_S4x3600_S4x3600x1_0_1 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_))) (broadcastInDim S4x3600x3600 ![0, 1, 2] bcast_S4x1x3600_S4x3600x3600_0_1_2 (broadcastInDim S4x1x3600 ![0, 2] bcast_S4x3600_S4x1x3600_0_2 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_)))) (mulf (broadcastInDim S4x3600x3600 ![] bcast_S_S4x3600x3600 (constant S_ .f32 0x40000000#32)) (Host.dotGeneral dot_S4x3600x384_S4x3600x384_S4x3600x3600_2_2_1_1_0_0 none (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))))) (broadcastInDim S4x3600x3600 ![] bcast_S_S4x3600x3600 (constant S_ .f32 0x00000000#32))) (broadcastInDim S4x3600x3600 ![] bcast_S_S4x3600x3600 (id (constant S_ .f32 0x56B5E621#32)))) (constant S_ .f32 0x7F800000#32) reducesTo_S4x3600x3600_S4x3600_d1 h_S_

set_option maxRecDepth 8192 in
/-- `main_v43`'s composed term of the arguments (named: it is long). -/
def res_main_v43 (m : (ℓ : Loc nD τ sig) → Buf (Elt F) ℓ) (c : Dev nD) : Buf (Elt F) ((c.tc : Thread nD τ).loc main_v43) :=
  Host.reduce FloatOps.minimumf (select (andi (broadcastInDim S4x3600x3600 ![0, 1, 2] bcast_S4x3600x1_S4x3600x3600_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (broadcastInDim S4x3600x3600 ![0, 1, 2] bcast_S4x1x3600_S4x3600x3600_0_1_2 (broadcastInDim S4x1x3600 ![0, 2] bcast_S4x3600_S4x1x3600_0_2 (cmpi .sgt (shapeCast _ (m ((c.tc : Thread nD τ).loc main_arg3)) shapeCasts_S4x60x60x1_S4x3600) (broadcastInDim S4x3600 ![] bcast_S_S4x3600 (constantI S_ 32 0#32)))))) (maximumf (subf (addf (broadcastInDim S4x3600x3600 ![0, 1, 2] bcast_S4x3600x1_S4x3600x3600_0_1_2 (broadcastInDim S4x3600x1 ![0, 1] bcast_S4x3600_S4x3600x1_0_1 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_))) (broadcastInDim S4x3600x3600 ![0, 1, 2] bcast_S4x1x3600_S4x3600x3600_0_1_2 (broadcastInDim S4x1x3600 ![0, 2] bcast_S4x3600_S4x1x3600_0_2 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_)))) (mulf (broadcastInDim S4x3600x3600 ![] bcast_S_S4x3600x3600 (constant S_ .f32 0x40000000#32)) (Host.dotGeneral dot_S4x3600x384_S4x3600x384_S4x3600x3600_2_2_1_1_0_0 none (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))))) (broadcastInDim S4x3600x3600 ![] bcast_S_S4x3600x3600 (constant S_ .f32 0x00000000#32))) (broadcastInDim S4x3600x3600 ![] bcast_S_S4x3600x3600 (id (constant S_ .f32 0x56B5E621#32)))) (constant S_ .f32 0x7F800000#32) reducesTo_S4x3600x3600_S4x3600_d2 h_S_

set_option maxRecDepth 8192 in
/-- `main_v41`'s composed term of the arguments (named: it is long). -/
def res_main_v41 (m : (ℓ : Loc nD τ sig) → Buf (Elt F) ℓ) (c : Dev nD) : Buf (Elt F) ((c.tc : Thread nD τ).loc main_v41) :=
  (fun j => (Host.argReduce reducer_argmin_f32_i32 (select (andi (broadcastInDim S4x3600x3600 ![0, 1, 2] bcast_S4x3600x1_S4x3600x3600_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (broadcastInDim S4x3600x3600 ![0, 1, 2] bcast_S4x1x3600_S4x3600x3600_0_1_2 (broadcastInDim S4x1x3600 ![0, 2] bcast_S4x3600_S4x1x3600_0_2 (cmpi .sgt (shapeCast _ (m ((c.tc : Thread nD τ).loc main_arg3)) shapeCasts_S4x60x60x1_S4x3600) (broadcastInDim S4x3600 ![] bcast_S_S4x3600 (constantI S_ 32 0#32)))))) (Host.sqrt (maximumf (subf (addf (broadcastInDim S4x3600x3600 ![0, 1, 2] bcast_S4x3600x1_S4x3600x3600_0_1_2 (broadcastInDim S4x3600x1 ![0, 1] bcast_S4x3600_S4x3600x1_0_1 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_))) (broadcastInDim S4x3600x3600 ![0, 1, 2] bcast_S4x1x3600_S4x3600x3600_0_1_2 (broadcastInDim S4x1x3600 ![0, 2] bcast_S4x3600_S4x1x3600_0_2 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_)))) (mulf (broadcastInDim S4x3600x3600 ![] bcast_S_S4x3600x3600 (constant S_ .f32 0x40000000#32)) (Host.dotGeneral dot_S4x3600x384_S4x3600x384_S4x3600x3600_2_2_1_1_0_0 none (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))))) (broadcastInDim S4x3600x3600 ![] bcast_S_S4x3600x3600 (constant S_ .f32 0x00000000#32)))) (broadcastInDim S4x3600x3600 ![] bcast_S_S4x3600x3600 (id (constant S_ .f32 0x4B189680#32)))) (iotaInDim S4x3600x3600 32 1) (constant S_ .f32 0x7F800000#32) (constantI S_ 32 0#32) reducesTo_S4x3600x3600_S4x3600_d1 h_S_ j).2)

set_option maxRecDepth 8192 in
/-- `main_v40`'s composed term of the arguments (named: it is long). -/
def res_main_v40 (m : (ℓ : Loc nD τ sig) → Buf (Elt F) ℓ) (c : Dev nD) : Buf (Elt F) ((c.tc : Thread nD τ).loc main_v40) :=
  (fun j => (Host.argReduce reducer_argmin_f32_i32 (select (andi (broadcastInDim S4x3600x3600 ![0, 1, 2] bcast_S4x3600x1_S4x3600x3600_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (broadcastInDim S4x3600x3600 ![0, 1, 2] bcast_S4x1x3600_S4x3600x3600_0_1_2 (broadcastInDim S4x1x3600 ![0, 2] bcast_S4x3600_S4x1x3600_0_2 (cmpi .sgt (shapeCast _ (m ((c.tc : Thread nD τ).loc main_arg3)) shapeCasts_S4x60x60x1_S4x3600) (broadcastInDim S4x3600 ![] bcast_S_S4x3600 (constantI S_ 32 0#32)))))) (Host.sqrt (maximumf (subf (addf (broadcastInDim S4x3600x3600 ![0, 1, 2] bcast_S4x3600x1_S4x3600x3600_0_1_2 (broadcastInDim S4x3600x1 ![0, 1] bcast_S4x3600_S4x3600x1_0_1 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_))) (broadcastInDim S4x3600x3600 ![0, 1, 2] bcast_S4x1x3600_S4x3600x3600_0_1_2 (broadcastInDim S4x1x3600 ![0, 2] bcast_S4x3600_S4x1x3600_0_2 (Host.reduceAdd (mulf (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))) (constant S_ .f32 0x00000000#32) reducesTo_S4x3600x384_S4x3600_d2 h_S_)))) (mulf (broadcastInDim S4x3600x3600 ![] bcast_S_S4x3600x3600 (constant S_ .f32 0x40000000#32)) (Host.dotGeneral dot_S4x3600x384_S4x3600x384_S4x3600x3600_2_2_1_1_0_0 none (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg2)) shapeCasts_S4x60x60x1_S4x3600) (broadcastInDim S4x3600 ![] bcast_S_S4x3600 (constantI S_ 32 0#32))))) (shapeCast _ (Host.divf (m ((c.tc : Thread nD τ).loc main_arg0)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg0)) (m ((c.tc : Thread nD τ).loc main_arg0))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32)))) (select (broadcastInDim S4x3600x384 ![0, 1, 2] bcast_S4x3600x1_S4x3600x384_0_1_2 (broadcastInDim S4x3600x1 ![0, 1] bcast_S4x3600_S4x3600x1_0_1 (cmpi .sgt (shapeCast _ (m ((c.tc : Thread nD τ).loc main_arg3)) shapeCasts_S4x60x60x1_S4x3600) (broadcastInDim S4x3600 ![] bcast_S_S4x3600 (constantI S_ 32 0#32))))) (shapeCast _ (Host.divf (m ((c.tc : Thread nD τ).loc main_arg1)) (broadcastInDim S4x60x60x384 ![0, 1, 2, 3] bcast_S4x60x60x1_S4x60x60x384_0_1_2_3 (Host.sqrt (broadcastInDim S4x60x60x1 ![0, 1, 2] bcast_S4x60x60_S4x60x60x1_0_1_2 (Host.reduceAdd (mulf (m ((c.tc : Thread nD τ).loc main_arg1)) (m ((c.tc : Thread nD τ).loc main_arg1))) (constant S_ .f32 0x00000000#32) reducesTo_S4x60x60x384_S4x60x60_d3 h_S_))))) shapeCasts_S4x60x60x384_S4x3600x384) (broadcastInDim S4x3600x384 ![] bcast_S_S4x3600x384 (id (constant S_ .f32 0x00000000#32))))))) (broadcastInDim S4x3600x3600 ![] bcast_S_S4x3600x3600 (constant S_ .f32 0x00000000#32)))) (broadcastInDim S4x3600x3600 ![] bcast_S_S4x3600x3600 (id (constant S_ .f32 0x4B189680#32)))) (iotaInDim S4x3600x3600 32 2) (constant S_ .f32 0x7F800000#32) (constantI S_ 32 0#32) reducesTo_S4x3600x3600_S4x3600_d2 h_S_ j).2)

set_option maxRecDepth 8192 in
set_option maxHeartbeats 33200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = res_main_v40 m c
      ∧ r.2.mem ((c.tc : Thread nD τ).loc main_v41) = res_main_v41 m c
      ∧ r.2.mem ((c.tc : Thread nD τ).loc main_v43) = res_main_v43 m c
      ∧ r.2.mem ((c.tc : Thread nD τ).loc main_v44) = res_main_v44 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v40).trans (by simp only [ops, TRef.binary, TRef.nullary, TRef.quaternary, TRef.ternary, TRef.unary, TRef.toBuf, TRef.ofBuf, cast_eq]; after_results_simp <;> rfl <;> (unfold res_main_v40; rfl)),
      (h c main_v41).trans (by simp only [ops, TRef.binary, TRef.nullary, TRef.quaternary, TRef.ternary, TRef.unary, TRef.toBuf, TRef.ofBuf, cast_eq]; after_results_simp <;> rfl <;> (unfold res_main_v41; rfl)),
      (h c main_v43).trans (by simp only [ops, TRef.binary, TRef.nullary, TRef.quaternary, TRef.ternary, TRef.unary, TRef.toBuf, TRef.ofBuf, cast_eq]; after_results_simp <;> rfl <;> (unfold res_main_v43; rfl)),
      (h c main_v44).trans (by simp only [ops, TRef.binary, TRef.nullary, TRef.quaternary, TRef.ternary, TRef.unary, TRef.toBuf, TRef.ofBuf, cast_eq]; after_results_simp <;> rfl <;> (unfold res_main_v44; rfl)),
      (h c main_arg0).trans (by simp only [ops, TRef.binary, TRef.nullary, TRef.quaternary, TRef.ternary, TRef.unary, TRef.toBuf, TRef.ofBuf, cast_eq]; after_results_simp <;> rfl),
      (h c main_arg1).trans (by simp only [ops, TRef.binary, TRef.nullary, TRef.quaternary, TRef.ternary, TRef.unary, TRef.toBuf, TRef.ofBuf, cast_eq]; after_results_simp <;> rfl),
      (h c main_arg2).trans (by simp only [ops, TRef.binary, TRef.nullary, TRef.quaternary, TRef.ternary, TRef.unary, TRef.toBuf, TRef.ofBuf, cast_eq]; after_results_simp <;> rfl),
      (h c main_arg3).trans (by simp only [ops, TRef.binary, TRef.nullary, TRef.quaternary, TRef.ternary, TRef.unary, TRef.toBuf, TRef.ofBuf, cast_eq]; after_results_simp <;> rfl)⟩)
    (run_seq scopedRefs_eq scopedSems_eq defs main (fun _ => ops) main_eq (fun _ => ops_sub) m ρ)

end Cert.ReferenceIdeal.Value

end
-- ==== Proof.ReferenceRead.lean ====
/-
The reference one operation at a time. `val_…` is the array an operation writes, as a function of the program's
arguments; `val_…_apply` reads it at an index from the operands at an index; `val_…_eq` says that a result of the
run is the last of these arrays.
-/
module

public import proofs.«01_k».proof.Proof.ReferenceRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- stablehlo.multiply
def val_main_call0_v0 (x0 : (⟨S4x60x60x384, .f32⟩ : BufTy).Contents (Elt F)) : (⟨S4x60x60x384, .f32⟩ : BufTy).Contents (Elt F) :=
  mulf (x0) (x0)
theorem val_main_call0_v0_apply (x0 : (⟨S4x60x60x384, .f32⟩ : BufTy).Contents (Elt F)) (i : S4x60x60x384.Idx) :
    val_main_call0_v0 (F := F) x0 i = FloatOps.mulf (x0 i) (x0 i) := rfl

-- stablehlo.constant
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

-- stablehlo.reduce
def val_main_call0_v1 (x0 : (⟨S4x60x60x384, .f32⟩ : BufTy).Contents (Elt F)) : (⟨S4x60x60, .f32⟩ : BufTy).Contents (Elt F) :=
  Host.reduceAdd (val_main_call0_v0 (F := F) x0) (val_main_call0_cst (F := F)) reducesTo_S4x60x60x384_S4x60x60_d3 h_S_
abbrev idx_main_call0_v1 (i : S4x60x60.Idx) (k : Fin 384) : S4x60x60x384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_call0_v1_apply (x0 : (⟨S4x60x60x384, .f32⟩ : BufTy).Contents (Elt Ideal)) (i : S4x60x60.Idx) :
    val_main_call0_v1 (F := Ideal) x0 i = (val_main_call0_cst (F := Ideal)) (Shape.Idx.first h_S_) + ∑ k : Fin 384, (val_main_call0_v0 (F := Ideal) x0) (idx_main_call0_v1 i k) := by
  unfold val_main_call0_v1
  generalize val_main_call0_v0 (F := Ideal) x0 = y0
  simp only [Host.reduceAdd, Ideal.hostReduceAdd_def]
  rw [Ideal.hostReduceAdd_single reducesTo_S4x60x60x384_S4x60x60_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- stablehlo.broadcast_in_dim
def val_main_call0_v2 (x0 : (⟨S4x60x60x384, .f32⟩ : BufTy).Contents (Elt F)) : (⟨S4x60x60x1, .f32⟩ : BufTy).Contents (Elt F) :=
  broadcastInDim S4x60x60x1 ![0, 1, 2] bcast_S4x60x60_S4x60x60x1_0_1_2 (val_main_call0_v1 (F := F) x0)
abbrev idx_main_call0_v2 (i : S4x60x60x1.Idx) : S4x60x60.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_call0_v2_apply (x0 : (⟨S4x60x60x384, .f32⟩ : BufTy).Contents (Elt F)) (i : S4x60x60x1.Idx) :
    val_main_call0_v2 (F := F) x0 i = val_main_call0_v1 (F := F) x0 (idx_main_call0_v2 i) := by
  unfold val_main_call0_v2
  generalize val_main_call0_v1 (F := F) x0 = y
  exact broadcastInDim_apply _ bcast_S4x60x60_S4x60x60x1_0_1_2 y i (idx_main_call0_v2 i) (fun a => match a with
    | ⟨0, _⟩ => by show (i 0).val = if (4 : Nat) = 1 then 0 else (i 0).val; rw [if_neg (by decide)]
    | ⟨1, _⟩ => by show (i 1).val = if (60 : Nat) = 1 then 0 else (i 1).val; rw [if_neg (by decide)]
    | ⟨2, _⟩ => by show (i 2).val = if (60 : Nat) = 1 then 0 else (i 2).val; rw [if_neg (by decide)])

-- stablehlo.sqrt
def val_main_v0 (x0 : (⟨S4x60x60x384, .f32⟩ : BufTy).Contents (Elt F)) : (⟨S4x60x60x1, .f32⟩ : BufTy).Contents (Elt F) :=
  Host.sqrt (val_main_call0_v2 (F := F) x0)
theorem val_main_v0_apply (x0 : (⟨S4x60x60x384, .f32⟩ : BufTy).Contents (Elt F)) (i : S4x60x60x1.Idx) :
    val_main_v0 (F := F) x0 i = FloatOps.hostUnary .sqrt (val_main_call0_v2 (F := F) x0 i) := rfl

-- stablehlo.broadcast_in_dim
def val_main_v1 (x0 : (⟨S4x60x60x384, .f32⟩ : BufTy).Contents (Elt F)) : (⟨S4x60x60x384, .f32⟩ : BufTy).Contents (Elt F) :=
  broadcastInDim S4x60x60x384 ![0, 1, 2, 3] bcast_S4x60x60x1_S4x60x60x384_0_1_2_3 (val_main_v0 (F := F) x0)
abbrev idx_main_v1 (i : S4x60x60x384.Idx) : S4x60x60x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v1_apply (x0 : (⟨S4x60x60x384, .f32⟩ : BufTy).Contents (Elt F)) (i : S4x60x60x384.Idx) :
    val_main_v1 (F := F) x0 i = val_main_v0 (F := F) x0 (idx_main_v1 i) := by
  unfold val_main_v1
  generalize val_main_v0 (F := F) x0 = y
  exact broadcastInDim_apply _ bcast_S4x60x60x1_S4x60x60x384_0_1_2_3 y i (idx_main_v1 i) (fun a => match a with
    | ⟨0, _⟩ => by show (i 0).val = if (4 : Nat) = 1 then 0 else (i 0).val; rw [if_neg (by decide)]
    | ⟨1, _⟩ => by show (i 1).val = if (60 : Nat) = 1 then 0 else (i 1).val; rw [if_neg (by decide)]
    | ⟨2, _⟩ => by show (i 2).val = if (60 : Nat) = 1 then 0 else (i 2).val; rw [if_neg (by decide)]
    | ⟨3, _⟩ => by show 0 = if (1 : Nat) = 1 then 0 else (i 3).val; rw [if_pos rfl])

-- stablehlo.divide
def val_main_v2 (x0 : (⟨S4x60x60x384, .f32⟩ : BufTy).Contents (Elt F)) : (⟨S4x60x60x384, .f32⟩ : BufTy).Contents (Elt F) :=
  Host.divf (x0) (val_main_v1 (F := F) x0)
theorem val_main_v2_apply (x0 : (⟨S4x60x60x384, .f32⟩ : BufTy).Contents (Elt F)) (i : S4x60x60x384.Idx) :
    val_main_v2 (F := F) x0 i = FloatOps.hostDivf (x0 i) (val_main_v1 (F := F) x0 i) := rfl

-- stablehlo.multiply
def val_main_call1_v0 (x1 : (⟨S4x60x60x384, .f32⟩ : BufTy).Contents (Elt F)) : (⟨S4x60x60x384, .f32⟩ : BufTy).Contents (Elt F) :=
  mulf (x1) (x1)
theorem val_main_call1_v0_apply (x1 : (⟨S4x60x60x384, .f32⟩ : BufTy).Contents (Elt F)) (i : S4x60x60x384.Idx) :
    val_main_call1_v0 (F := F) x1 i = FloatOps.mulf (x1 i) (x1 i) := rfl

-- stablehlo.constant
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

-- stablehlo.reduce
def val_main_call1_v1 (x1 : (⟨S4x60x60x384, .f32⟩ : BufTy).Contents (Elt F)) : (⟨S4x60x60, .f32⟩ : BufTy).Contents (Elt F) :=
  Host.reduceAdd (val_main_call1_v0 (F := F) x1) (val_main_call1_cst (F := F)) reducesTo_S4x60x60x384_S4x60x60_d3 h_S_
abbrev idx_main_call1_v1 (i : S4x60x60.Idx) (k : Fin 384) : S4x60x60x384.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_call1_v1_apply (x1 : (⟨S4x60x60x384, .f32⟩ : BufTy).Contents (Elt Ideal)) (i : S4x60x60.Idx) :
    val_main_call1_v1 (F := Ideal) x1 i = (val_main_call1_cst (F := Ideal)) (Shape.Idx.first h_S_) + ∑ k : Fin 384, (val_main_call1_v0 (F := Ideal) x1) (idx_main_call1_v1 i k) := by
  unfold val_main_call1_v1
  generalize val_main_call1_v0 (F := Ideal) x1 = y0
  simp only [Host.reduceAdd, Ideal.hostReduceAdd_def]
  rw [Ideal.hostReduceAdd_single reducesTo_S4x60x60x384_S4x60x60_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- stablehlo.broadcast_in_dim
def val_main_call1_v2 (x1 : (⟨S4x60x60x384, .f32⟩ : BufTy).Contents (Elt F)) : (⟨S4x60x60x1, .f32⟩ : BufTy).Contents (Elt F) :=
  broadcastInDim S4x60x60x1 ![0, 1, 2] bcast_S4x60x60_S4x60x60x1_0_1_2 (val_main_call1_v1 (F := F) x1)
abbrev idx_main_call1_v2 (i : S4x60x60x1.Idx) : S4x60x60.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_call1_v2_apply (x1 : (⟨S4x60x60x384, .f32⟩ : BufTy).Contents (Elt F)) (i : S4x60x60x1.Idx) :
    val_main_call1_v2 (F := F) x1 i = val_main_call1_v1 (F := F) x1 (idx_main_call1_v2 i) := by
  unfold val_main_call1_v2
  generalize val_main_call1_v1 (F := F) x1 = y
  exact broadcastInDim_apply _ bcast_S4x60x60_S4x60x60x1_0_1_2 y i (idx_main_call1_v2 i) (fun a => match a with
    | ⟨0, _⟩ => by show (i 0).val = if (4 : Nat) = 1 then 0 else (i 0).val; rw [if_neg (by decide)]
    | ⟨1, _⟩ => by show (i 1).val = if (60 : Nat) = 1 then 0 else (i 1).val; rw [if_neg (by decide)]
    | ⟨2, _⟩ => by show (i 2).val = if (60 : Nat) = 1 then 0 else (i 2).val; rw [if_neg (by decide)])

-- stablehlo.sqrt
def val_main_v3 (x1 : (⟨S4x60x60x384, .f32⟩ : BufTy).Contents (Elt F)) : (⟨S4x60x60x1, .f32⟩ : BufTy).Contents (Elt F) :=
  Host.sqrt (val_main_call1_v2 (F := F) x1)
theorem val_main_v3_apply (x1 : (⟨S4x60x60x384, .f32⟩ : BufTy).Contents (Elt F)) (i : S4x60x60x1.Idx) :
    val_main_v3 (F := F) x1 i = FloatOps.hostUnary .sqrt (val_main_call1_v2 (F := F) x1 i) := rfl

-- stablehlo.broadcast_in_dim
def val_main_v4 (x1 : (⟨S4x60x60x384, .f32⟩ : BufTy).Contents (Elt F)) : (⟨S4x60x60x384, .f32⟩ : BufTy).Contents (Elt F) :=
  broadcastInDim S4x60x60x384 ![0, 1, 2, 3] bcast_S4x60x60x1_S4x60x60x384_0_1_2_3 (val_main_v3 (F := F) x1)
abbrev idx_main_v4 (i : S4x60x60x384.Idx) : S4x60x60x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v4_apply (x1 : (⟨S4x60x60x384, .f32⟩ : BufTy).Contents (Elt F)) (i : S4x60x60x384.Idx) :
    val_main_v4 (F := F) x1 i = val_main_v3 (F := F) x1 (idx_main_v4 i) := by
  unfold val_main_v4
  generalize val_main_v3 (F := F) x1 = y
  exact broadcastInDim_apply _ bcast_S4x60x60x1_S4x60x60x384_0_1_2_3 y i (idx_main_v4 i) (fun a => match a with
    | ⟨0, _⟩ => by show (i 0).val = if (4 : Nat) = 1 then 0 else (i 0).val; rw [if_neg (by decide)]
    | ⟨1, _⟩ => by show (i 1).val = if (60 : Nat) = 1 then 0 else (i 1).val; rw [if_neg (by decide)]
    | ⟨2, _⟩ => by show (i 2).val = if (60 : Nat) = 1 then 0 else (i 2).val; rw [if_neg (by decide)]
    | ⟨3, _⟩ => by show 0 = if (1 : Nat) = 1 then 0 else (i 3).val; rw [if_pos rfl])

-- stablehlo.divide
def val_main_v5 (x1 : (⟨S4x60x60x384, .f32⟩ : BufTy).Contents (Elt F)) : (⟨S4x60x60x384, .f32⟩ : BufTy).Contents (Elt F) :=
  Host.divf (x1) (val_main_v4 (F := F) x1)
theorem val_main_v5_apply (x1 : (⟨S4x60x60x384, .f32⟩ : BufTy).Contents (Elt F)) (i : S4x60x60x384.Idx) :
    val_main_v5 (F := F) x1 i = FloatOps.hostDivf (x1 i) (val_main_v4 (F := F) x1 i) := rfl

-- stablehlo.reshape
def val_main_v6 (x2 : (⟨S4x60x60x1, .i32⟩ : BufTy).Contents (Elt F)) : (⟨S4x3600, .i32⟩ : BufTy).Contents (Elt F) :=
  shapeCast _ (x2) shapeCasts_S4x60x60x1_S4x3600
set_option backward.proofsInPublic true in
abbrev idx_main_v6 (i : S4x3600.Idx) : S4x60x60x1.Idx := fun a => match a with
  | ⟨0, _⟩ => ⟨((i 0).val * 3600 + (i 1).val) / 3600, by have h0 : (i 0).val < 4 := (i 0).isLt; have h1 : (i 1).val < 3600 := (i 1).isLt; show ((i 0).val * 3600 + (i 1).val) / 3600 < 4; omega⟩
  | ⟨1, _⟩ => ⟨((i 0).val * 3600 + (i 1).val) / 60 % 60, by have h0 : (i 0).val < 4 := (i 0).isLt; have h1 : (i 1).val < 3600 := (i 1).isLt; show ((i 0).val * 3600 + (i 1).val) / 60 % 60 < 60; omega⟩
  | ⟨2, _⟩ => ⟨((i 0).val * 3600 + (i 1).val) / 1 % 60, by have h0 : (i 0).val < 4 := (i 0).isLt; have h1 : (i 1).val < 3600 := (i 1).isLt; show ((i 0).val * 3600 + (i 1).val) / 1 % 60 < 60; omega⟩
  | ⟨3, _⟩ => ⟨0, Nat.one_pos⟩
theorem val_main_v6_apply (x2 : (⟨S4x60x60x1, .i32⟩ : BufTy).Contents (Elt F)) (i : S4x3600.Idx) :
    val_main_v6 (F := F) x2 i = x2 (idx_main_v6 i) := by
  unfold val_main_v6
  exact shapeCast_apply x2 shapeCasts_S4x60x60x1_S4x3600 i (idx_main_v6 i)
    (by rewrite [Shape.rowMajor_val_four, Shape.rowMajor_val_two]; have h0 : (i 0).val < 4 := (i 0).isLt; have h1 : (i 1).val < 3600 := (i 1).isLt; show ((((i 0).val * 3600 + (i 1).val) / 3600 * 60 + ((i 0).val * 3600 + (i 1).val) / 60 % 60) * 60 + ((i 0).val * 3600 + (i 1).val) / 1 % 60) * 1 + 0 = (i 0).val * 3600 + (i 1).val; omega)

-- stablehlo.constant
def val_main_c : (⟨S_, .i32⟩ : BufTy).Contents (Elt F) :=
  constantI S_ 32 0#32
theorem val_main_c_apply (i : S_.Idx) :
    val_main_c (F := F) i = 0#32 := rfl

-- stablehlo.broadcast_in_dim
def val_main_v7 : (⟨S4x3600, .i32⟩ : BufTy).Contents (Elt F) :=
  broadcastInDim S4x3600 ![] bcast_S_S4x3600 (val_main_c (F := F))
abbrev idx_main_v7 (i : S4x3600.Idx) : S_.Idx := fun a => a.elim0
theorem val_main_v7_apply (i : S4x3600.Idx) :
    val_main_v7 (F := F) i = val_main_c (F := F) (idx_main_v7 i) := by
  unfold val_main_v7
  generalize val_main_c (F := F) = y
  exact broadcastInDim_apply _ bcast_S_S4x3600 y i (idx_main_v7 i) (fun a => a.elim0)

-- stablehlo.compare
def val_main_v8 (x2 : (⟨S4x60x60x1, .i32⟩ : BufTy).Contents (Elt F)) : (⟨S4x3600, .i1⟩ : BufTy).Contents (Elt F) :=
  cmpi .sgt (val_main_v6 (F := F) x2) (val_main_v7 (F := F))
theorem val_main_v8_apply (x2 : (⟨S4x60x60x1, .i32⟩ : BufTy).Contents (Elt F)) (i : S4x3600.Idx) :
    val_main_v8 (F := F) x2 i = IntOp.cmpi .sgt (val_main_v6 (F := F) x2 i) (val_main_v7 (F := F) i) := rfl

-- stablehlo.reshape
def val_main_v9 (x3 : (⟨S4x60x60x1, .i32⟩ : BufTy).Contents (Elt F)) : (⟨S4x3600, .i32⟩ : BufTy).Contents (Elt F) :=
  shapeCast _ (x3) shapeCasts_S4x60x60x1_S4x3600
set_option backward.proofsInPublic true in
abbrev idx_main_v9 (i : S4x3600.Idx) : S4x60x60x1.Idx := fun a => match a with
  | ⟨0, _⟩ => ⟨((i 0).val * 3600 + (i 1).val) / 3600, by have h0 : (i 0).val < 4 := (i 0).isLt; have h1 : (i 1).val < 3600 := (i 1).isLt; show ((i 0).val * 3600 + (i 1).val) / 3600 < 4; omega⟩
  | ⟨1, _⟩ => ⟨((i 0).val * 3600 + (i 1).val) / 60 % 60, by have h0 : (i 0).val < 4 := (i 0).isLt; have h1 : (i 1).val < 3600 := (i 1).isLt; show ((i 0).val * 3600 + (i 1).val) / 60 % 60 < 60; omega⟩
  | ⟨2, _⟩ => ⟨((i 0).val * 3600 + (i 1).val) / 1 % 60, by have h0 : (i 0).val < 4 := (i 0).isLt; have h1 : (i 1).val < 3600 := (i 1).isLt; show ((i 0).val * 3600 + (i 1).val) / 1 % 60 < 60; omega⟩
  | ⟨3, _⟩ => ⟨0, Nat.one_pos⟩
theorem val_main_v9_apply (x3 : (⟨S4x60x60x1, .i32⟩ : BufTy).Contents (Elt F)) (i : S4x3600.Idx) :
    val_main_v9 (F := F) x3 i = x3 (idx_main_v9 i) := by
  unfold val_main_v9
  exact shapeCast_apply x3 shapeCasts_S4x60x60x1_S4x3600 i (idx_main_v9 i)
    (by rewrite [Shape.rowMajor_val_four, Shape.rowMajor_val_two]; have h0 : (i 0).val < 4 := (i 0).isLt; have h1 : (i 1).val < 3600 := (i 1).isLt; show ((((i 0).val * 3600 + (i 1).val) / 3600 * 60 + ((i 0).val * 3600 + (i 1).val) / 60 % 60) * 60 + ((i 0).val * 3600 + (i 1).val) / 1 % 60) * 1 + 0 = (i 0).val * 3600 + (i 1).val; omega)

-- stablehlo.constant
def val_main_c_0 : (⟨S_, .i32⟩ : BufTy).Contents (Elt F) :=
  constantI S_ 32 0#32
theorem val_main_c_0_apply (i : S_.Idx) :
    val_main_c_0 (F := F) i = 0#32 := rfl

-- stablehlo.broadcast_in_dim
def val_main_v10 : (⟨S4x3600, .i32⟩ : BufTy).Contents (Elt F) :=
  broadcastInDim S4x3600 ![] bcast_S_S4x3600 (val_main_c_0 (F := F))
abbrev idx_main_v10 (i : S4x3600.Idx) : S_.Idx := fun a => a.elim0
theorem val_main_v10_apply (i : S4x3600.Idx) :
    val_main_v10 (F := F) i = val_main_c_0 (F := F) (idx_main_v10 i) := by
  unfold val_main_v10
  generalize val_main_c_0 (F := F) = y
  exact broadcastInDim_apply _ bcast_S_S4x3600 y i (idx_main_v10 i) (fun a => a.elim0)

-- stablehlo.compare
def val_main_v11 (x3 : (⟨S4x60x60x1, .i32⟩ : BufTy).Contents (Elt F)) : (⟨S4x3600, .i1⟩ : BufTy).Contents (Elt F) :=
  cmpi .sgt (val_main_v9 (F := F) x3) (val_main_v10 (F := F))
theorem val_main_v11_apply (x3 : (⟨S4x60x60x1, .i32⟩ : BufTy).Contents (Elt F)) (i : S4x3600.Idx) :
    val_main_v11 (F := F) x3 i = IntOp.cmpi .sgt (val_main_v9 (F := F) x3 i) (val_main_v10 (F := F) i) := rfl

-- stablehlo.broadcast_in_dim
def val_main_v12 (x2 : (⟨S4x60x60x1, .i32⟩ : BufTy).Contents (Elt F)) : (⟨S4x3600x1, .i1⟩ : BufTy).Contents (Elt F) :=
  broadcastInDim S4x3600x1 ![0, 1] bcast_S4x3600_S4x3600x1_0_1 (val_main_v8 (F := F) x2)
abbrev idx_main_v12 (i : S4x3600x1.Idx) : S4x3600.Idx := fun a => match a with
  | ⟨0, _⟩ => ⟨(i 0).val, (i 0).isLt⟩
  | ⟨1, _⟩ => ⟨(i 1).val, (i 1).isLt⟩
theorem val_main_v12_apply (x2 : (⟨S4x60x60x1, .i32⟩ : BufTy).Contents (Elt F)) (i : S4x3600x1.Idx) :
    val_main_v12 (F := F) x2 i = val_main_v8 (F := F) x2 (idx_main_v12 i) := by
  unfold val_main_v12
  generalize val_main_v8 (F := F) x2 = y
  exact broadcastInDim_apply _ bcast_S4x3600_S4x3600x1_0_1 y i (idx_main_v12 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)])

-- stablehlo.reshape
def val_main_v13 (x0 : (⟨S4x60x60x384, .f32⟩ : BufTy).Contents (Elt F)) : (⟨S4x3600x384, .f32⟩ : BufTy).Contents (Elt F) :=
  shapeCast _ (val_main_v2 (F := F) x0) shapeCasts_S4x60x60x384_S4x3600x384
set_option backward.proofsInPublic true in
abbrev idx_main_v13 (i : S4x3600x384.Idx) : S4x60x60x384.Idx := fun a => match a with
  | ⟨0, _⟩ => ⟨(((i 0).val * 3600 + (i 1).val) * 384 + (i 2).val) / 1382400, by have h0 : (i 0).val < 4 := (i 0).isLt; have h1 : (i 1).val < 3600 := (i 1).isLt; have h2 : (i 2).val < 384 := (i 2).isLt; show (((i 0).val * 3600 + (i 1).val) * 384 + (i 2).val) / 1382400 < 4; omega⟩
  | ⟨1, _⟩ => ⟨(((i 0).val * 3600 + (i 1).val) * 384 + (i 2).val) / 23040 % 60, by have h0 : (i 0).val < 4 := (i 0).isLt; have h1 : (i 1).val < 3600 := (i 1).isLt; have h2 : (i 2).val < 384 := (i 2).isLt; show (((i 0).val * 3600 + (i 1).val) * 384 + (i 2).val) / 23040 % 60 < 60; omega⟩
  | ⟨2, _⟩ => ⟨(((i 0).val * 3600 + (i 1).val) * 384 + (i 2).val) / 384 % 60, by have h0 : (i 0).val < 4 := (i 0).isLt; have h1 : (i 1).val < 3600 := (i 1).isLt; have h2 : (i 2).val < 384 := (i 2).isLt; show (((i 0).val * 3600 + (i 1).val) * 384 + (i 2).val) / 384 % 60 < 60; omega⟩
  | ⟨3, _⟩ => ⟨(((i 0).val * 3600 + (i 1).val) * 384 + (i 2).val) % 384, by have h0 : (i 0).val < 4 := (i 0).isLt; have h1 : (i 1).val < 3600 := (i 1).isLt; have h2 : (i 2).val < 384 := (i 2).isLt; show (((i 0).val * 3600 + (i 1).val) * 384 + (i 2).val) % 384 < 384; omega⟩
theorem val_main_v13_apply (x0 : (⟨S4x60x60x384, .f32⟩ : BufTy).Contents (Elt F)) (i : S4x3600x384.Idx) :
    val_main_v13 (F := F) x0 i = val_main_v2 (F := F) x0 (idx_main_v13 i) := by
  unfold val_main_v13
  generalize val_main_v2 (F := F) x0 = y
  exact shapeCast_apply y shapeCasts_S4x60x60x384_S4x3600x384 i (idx_main_v13 i)
    (by rewrite [Shape.rowMajor_val_four, Shape.rowMajor_val_three]; have h0 : (i 0).val < 4 := (i 0).isLt; have h1 : (i 1).val < 3600 := (i 1).isLt; have h2 : (i 2).val < 384 := (i 2).isLt; show (((((i 0).val * 3600 + (i 1).val) * 384 + (i 2).val) / 1382400 * 60 + (((i 0).val * 3600 + (i 1).val) * 384 + (i 2).val) / 23040 % 60) * 60 + (((i 0).val * 3600 + (i 1).val) * 384 + (i 2).val) / 384 % 60) * 384 + (((i 0).val * 3600 + (i 1).val) * 384 + (i 2).val) % 384 = ((i 0).val * 3600 + (i 1).val) * 384 + (i 2).val; omega)

-- stablehlo.constant
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- stablehlo.convert
def val_main_call2_v0 : (⟨S_, .f32⟩ : BufTy).Contents (Elt F) :=
  id (val_main_cst (F := F))
theorem val_main_call2_v0_apply (i : S_.Idx) :
    val_main_call2_v0 (F := F) i = (val_main_cst (F := F) i) := rfl

-- stablehlo.broadcast_in_dim
def val_main_call2_v1 (x2 : (⟨S4x60x60x1, .i32⟩ : BufTy).Contents (Elt F)) : (⟨S4x3600x384, .i1⟩ : BufTy).Contents (Elt F) :=
  broadcastInDim S4x3600x384 ![0, 1, 2] bcast_S4x3600x1_S4x3600x384_0_1_2 (val_main_v12 (F := F) x2)
abbrev idx_main_call2_v1 (i : S4x3600x384.Idx) : S4x3600x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call2_v1_apply (x2 : (⟨S4x60x60x1, .i32⟩ : BufTy).Contents (Elt F)) (i : S4x3600x384.Idx) :
    val_main_call2_v1 (F := F) x2 i = val_main_v12 (F := F) x2 (idx_main_call2_v1 i) := by
  unfold val_main_call2_v1
  generalize val_main_v12 (F := F) x2 = y
  exact broadcastInDim_apply _ bcast_S4x3600x1_S4x3600x384_0_1_2 y i (idx_main_call2_v1 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)]
    | ⟨2, _⟩ => by show 0 = if (1 : Nat) = 1 then 0 else (i 2).val; rw [if_pos rfl])

-- stablehlo.broadcast_in_dim
def val_main_call2_v2 : (⟨S4x3600x384, .f32⟩ : BufTy).Contents (Elt F) :=
  broadcastInDim S4x3600x384 ![] bcast_S_S4x3600x384 (val_main_call2_v0 (F := F))
abbrev idx_main_call2_v2 (i : S4x3600x384.Idx) : S_.Idx := fun a => a.elim0
theorem val_main_call2_v2_apply (i : S4x3600x384.Idx) :
    val_main_call2_v2 (F := F) i = val_main_call2_v0 (F := F) (idx_main_call2_v2 i) := by
  unfold val_main_call2_v2
  generalize val_main_call2_v0 (F := F) = y
  exact broadcastInDim_apply _ bcast_S_S4x3600x384 y i (idx_main_call2_v2 i) (fun a => a.elim0)

-- stablehlo.select
def val_main_v14 (x0 : (⟨S4x60x60x384, .f32⟩ : BufTy).Contents (Elt F)) (x2 : (⟨S4x60x60x1, .i32⟩ : BufTy).Contents (Elt F)) : (⟨S4x3600x384, .f32⟩ : BufTy).Contents (Elt F) :=
  select (val_main_call2_v1 (F := F) x2) (val_main_v13 (F := F) x0) (val_main_call2_v2 (F := F))
theorem val_main_v14_apply (x0 : (⟨S4x60x60x384, .f32⟩ : BufTy).Contents (Elt F)) (x2 : (⟨S4x60x60x1, .i32⟩ : BufTy).Contents (Elt F)) (i : S4x3600x384.Idx) :
    val_main_v14 (F := F) x0 x2 i = Scalar.select (val_main_call2_v1 (F := F) x2 i) (val_main_v13 (F := F) x0 i) (val_main_call2_v2 (F := F) i) := rfl

-- stablehlo.broadcast_in_dim
def val_main_v15 (x3 : (⟨S4x60x60x1, .i32⟩ : BufTy).Contents (Elt F)) : (⟨S4x3600x1, .i1⟩ : BufTy).Contents (Elt F) :=
  broadcastInDim S4x3600x1 ![0, 1] bcast_S4x3600_S4x3600x1_0_1 (val_main_v11 (F := F) x3)
abbrev idx_main_v15 (i : S4x3600x1.Idx) : S4x3600.Idx := fun a => match a with
  | ⟨0, _⟩ => ⟨(i 0).val, (i 0).isLt⟩
  | ⟨1, _⟩ => ⟨(i 1).val, (i 1).isLt⟩
theorem val_main_v15_apply (x3 : (⟨S4x60x60x1, .i32⟩ : BufTy).Contents (Elt F)) (i : S4x3600x1.Idx) :
    val_main_v15 (F := F) x3 i = val_main_v11 (F := F) x3 (idx_main_v15 i) := by
  unfold val_main_v15
  generalize val_main_v11 (F := F) x3 = y
  exact broadcastInDim_apply _ bcast_S4x3600_S4x3600x1_0_1 y i (idx_main_v15 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)])

-- stablehlo.reshape
def val_main_v16 (x1 : (⟨S4x60x60x384, .f32⟩ : BufTy).Contents (Elt F)) : (⟨S4x3600x384, .f32⟩ : BufTy).Contents (Elt F) :=
  shapeCast _ (val_main_v5 (F := F) x1) shapeCasts_S4x60x60x384_S4x3600x384
set_option backward.proofsInPublic true in
abbrev idx_main_v16 (i : S4x3600x384.Idx) : S4x60x60x384.Idx := fun a => match a with
  | ⟨0, _⟩ => ⟨(((i 0).val * 3600 + (i 1).val) * 384 + (i 2).val) / 1382400, by have h0 : (i 0).val < 4 := (i 0).isLt; have h1 : (i 1).val < 3600 := (i 1).isLt; have h2 : (i 2).val < 384 := (i 2).isLt; show (((i 0).val * 3600 + (i 1).val) * 384 + (i 2).val) / 1382400 < 4; omega⟩
  | ⟨1, _⟩ => ⟨(((i 0).val * 3600 + (i 1).val) * 384 + (i 2).val) / 23040 % 60, by have h0 : (i 0).val < 4 := (i 0).isLt; have h1 : (i 1).val < 3600 := (i 1).isLt; have h2 : (i 2).val < 384 := (i 2).isLt; show (((i 0).val * 3600 + (i 1).val) * 384 + (i 2).val) / 23040 % 60 < 60; omega⟩
  | ⟨2, _⟩ => ⟨(((i 0).val * 3600 + (i 1).val) * 384 + (i 2).val) / 384 % 60, by have h0 : (i 0).val < 4 := (i 0).isLt; have h1 : (i 1).val < 3600 := (i 1).isLt; have h2 : (i 2).val < 384 := (i 2).isLt; show (((i 0).val * 3600 + (i 1).val) * 384 + (i 2).val) / 384 % 60 < 60; omega⟩
  | ⟨3, _⟩ => ⟨(((i 0).val * 3600 + (i 1).val) * 384 + (i 2).val) % 384, by have h0 : (i 0).val < 4 := (i 0).isLt; have h1 : (i 1).val < 3600 := (i 1).isLt; have h2 : (i 2).val < 384 := (i 2).isLt; show (((i 0).val * 3600 + (i 1).val) * 384 + (i 2).val) % 384 < 384; omega⟩
theorem val_main_v16_apply (x1 : (⟨S4x60x60x384, .f32⟩ : BufTy).Contents (Elt F)) (i : S4x3600x384.Idx) :
    val_main_v16 (F := F) x1 i = val_main_v5 (F := F) x1 (idx_main_v16 i) := by
  unfold val_main_v16
  generalize val_main_v5 (F := F) x1 = y
  exact shapeCast_apply y shapeCasts_S4x60x60x384_S4x3600x384 i (idx_main_v16 i)
    (by rewrite [Shape.rowMajor_val_four, Shape.rowMajor_val_three]; have h0 : (i 0).val < 4 := (i 0).isLt; have h1 : (i 1).val < 3600 := (i 1).isLt; have h2 : (i 2).val < 384 := (i 2).isLt; show (((((i 0).val * 3600 + (i 1).val) * 384 + (i 2).val) / 1382400 * 60 + (((i 0).val * 3600 + (i 1).val) * 384 + (i 2).val) / 23040 % 60) * 60 + (((i 0).val * 3600 + (i 1).val) * 384 + (i 2).val) / 384 % 60) * 384 + (((i 0).val * 3600 + (i 1).val) * 384 + (i 2).val) % 384 = ((i 0).val * 3600 + (i 1).val) * 384 + (i 2).val; omega)

-- stablehlo.constant
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- stablehlo.convert
def val_main_call3_v0 : (⟨S_, .f32⟩ : BufTy).Contents (Elt F) :=
  id (val_main_cst_1 (F := F))
theorem val_main_call3_v0_apply (i : S_.Idx) :
    val_main_call3_v0 (F := F) i = (val_main_cst_1 (F := F) i) := rfl

-- stablehlo.broadcast_in_dim
def val_main_call3_v1 (x3 : (⟨S4x60x60x1, .i32⟩ : BufTy).Contents (Elt F)) : (⟨S4x3600x384, .i1⟩ : BufTy).Contents (Elt F) :=
  broadcastInDim S4x3600x384 ![0, 1, 2] bcast_S4x3600x1_S4x3600x384_0_1_2 (val_main_v15 (F := F) x3)
abbrev idx_main_call3_v1 (i : S4x3600x384.Idx) : S4x3600x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_call3_v1_apply (x3 : (⟨S4x60x60x1, .i32⟩ : BufTy).Contents (Elt F)) (i : S4x3600x384.Idx) :
    val_main_call3_v1 (F := F) x3 i = val_main_v15 (F := F) x3 (idx_main_call3_v1 i) := by
  unfold val_main_call3_v1
  generalize val_main_v15 (F := F) x3 = y
  exact broadcastInDim_apply _ bcast_S4x3600x1_S4x3600x384_0_1_2 y i (idx_main_call3_v1 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)]
    | ⟨2, _⟩ => by show 0 = if (1 : Nat) = 1 then 0 else (i 2).val; rw [if_pos rfl])

-- stablehlo.broadcast_in_dim
def val_main_call3_v2 : (⟨S4x3600x384, .f32⟩ : BufTy).Contents (Elt F) :=
  broadcastInDim S4x3600x384 ![] bcast_S_S4x3600x384 (val_main_call3_v0 (F := F))
abbrev idx_main_call3_v2 (i : S4x3600x384.Idx) : S_.Idx := fun a => a.elim0
theorem val_main_call3_v2_apply (i : S4x3600x384.Idx) :
    val_main_call3_v2 (F := F) i = val_main_call3_v0 (F := F) (idx_main_call3_v2 i) := by
  unfold val_main_call3_v2
  generalize val_main_call3_v0 (F := F) = y
  exact broadcastInDim_apply _ bcast_S_S4x3600x384 y i (idx_main_call3_v2 i) (fun a => a.elim0)

-- stablehlo.select
def val_main_v17 (x1 : (⟨S4x60x60x384, .f32⟩ : BufTy).Contents (Elt F)) (x3 : (⟨S4x60x60x1, .i32⟩ : BufTy).Contents (Elt F)) : (⟨S4x3600x384, .f32⟩ : BufTy).Contents (Elt F) :=
  select (val_main_call3_v1 (F := F) x3) (val_main_v16 (F := F) x1) (val_main_call3_v2 (F := F))
theorem val_main_v17_apply (x1 : (⟨S4x60x60x384, .f32⟩ : BufTy).Contents (Elt F)) (x3 : (⟨S4x60x60x1, .i32⟩ : BufTy).Contents (Elt F)) (i : S4x3600x384.Idx) :
    val_main_v17 (F := F) x1 x3 i = Scalar.select (val_main_call3_v1 (F := F) x3 i) (val_main_v16 (F := F) x1 i) (val_main_call3_v2 (F := F) i) := rfl

-- stablehlo.multiply
def val_main_v18 (x0 : (⟨S4x60x60x384, .f32⟩ : BufTy).Contents (Elt F)) (x2 : (⟨S4x60x60x1, .i32⟩ : BufTy).Contents (Elt F)) : (⟨S4x3600x384, .f32⟩ : BufTy).Contents (Elt F) :=
  mulf (val_main_v14 (F := F) x0 x2) (val_main_v14 (F := F) x0 x2)
theorem val_main_v18_apply (x0 : (⟨S4x60x60x384, .f32⟩ : BufTy).Contents (Elt F)) (x2 : (⟨S4x60x60x1, .i32⟩ : BufTy).Contents (Elt F)) (i : S4x3600x384.Idx) :
    val_main_v18 (F := F) x0 x2 i = FloatOps.mulf (val_main_v14 (F := F) x0 x2 i) (val_main_v14 (F := F) x0 x2 i) := rfl

-- stablehlo.constant
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- stablehlo.reduce
def val_main_v19 (x0 : (⟨S4x60x60x384, .f32⟩ : BufTy).Contents (Elt F)) (x2 : (⟨S4x60x60x1, .i32⟩ : BufTy).Contents (Elt F)) : (⟨S4x3600, .f32⟩ : BufTy).Contents (Elt F) :=
  Host.reduceAdd (val_main_v18 (F := F) x0 x2) (val_main_cst_2 (F := F)) reducesTo_S4x3600x384_S4x3600_d2 h_S_
abbrev idx_main_v19 (i : S4x3600.Idx) (k : Fin 384) : S4x3600x384.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v19_apply (x0 : (⟨S4x60x60x384, .f32⟩ : BufTy).Contents (Elt Ideal)) (x2 : (⟨S4x60x60x1, .i32⟩ : BufTy).Contents (Elt Ideal)) (i : S4x3600.Idx) :
    val_main_v19 (F := Ideal) x0 x2 i = (val_main_cst_2 (F := Ideal)) (Shape.Idx.first h_S_) + ∑ k : Fin 384, (val_main_v18 (F := Ideal) x0 x2) (idx_main_v19 i k) := by
  unfold val_main_v19
  generalize val_main_v18 (F := Ideal) x0 x2 = y0
  simp only [Host.reduceAdd, Ideal.hostReduceAdd_def]
  rw [Ideal.hostReduceAdd_single reducesTo_S4x3600x384_S4x3600_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- stablehlo.multiply
def val_main_v20 (x1 : (⟨S4x60x60x384, .f32⟩ : BufTy).Contents (Elt F)) (x3 : (⟨S4x60x60x1, .i32⟩ : BufTy).Contents (Elt F)) : (⟨S4x3600x384, .f32⟩ : BufTy).Contents (Elt F) :=
  mulf (val_main_v17 (F := F) x1 x3) (val_main_v17 (F := F) x1 x3)
theorem val_main_v20_apply (x1 : (⟨S4x60x60x384, .f32⟩ : BufTy).Contents (Elt F)) (x3 : (⟨S4x60x60x1, .i32⟩ : BufTy).Contents (Elt F)) (i : S4x3600x384.Idx) :
    val_main_v20 (F := F) x1 x3 i = FloatOps.mulf (val_main_v17 (F := F) x1 x3 i) (val_main_v17 (F := F) x1 x3 i) := rfl

-- stablehlo.constant
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- stablehlo.reduce
def val_main_v21 (x1 : (⟨S4x60x60x384, .f32⟩ : BufTy).Contents (Elt F)) (x3 : (⟨S4x60x60x1, .i32⟩ : BufTy).Contents (Elt F)) : (⟨S4x3600, .f32⟩ : BufTy).Contents (Elt F) :=
  Host.reduceAdd (val_main_v20 (F := F) x1 x3) (val_main_cst_3 (F := F)) reducesTo_S4x3600x384_S4x3600_d2 h_S_
abbrev idx_main_v21 (i : S4x3600.Idx) (k : Fin 384) : S4x3600x384.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v21_apply (x1 : (⟨S4x60x60x384, .f32⟩ : BufTy).Contents (Elt Ideal)) (x3 : (⟨S4x60x60x1, .i32⟩ : BufTy).Contents (Elt Ideal)) (i : S4x3600.Idx) :
    val_main_v21 (F := Ideal) x1 x3 i = (val_main_cst_3 (F := Ideal)) (Shape.Idx.first h_S_) + ∑ k : Fin 384, (val_main_v20 (F := Ideal) x1 x3) (idx_main_v21 i k) := by
  unfold val_main_v21
  generalize val_main_v20 (F := Ideal) x1 x3 = y0
  simp only [Host.reduceAdd, Ideal.hostReduceAdd_def]
  rw [Ideal.hostReduceAdd_single reducesTo_S4x3600x384_S4x3600_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- stablehlo.broadcast_in_dim
def val_main_v22 (x0 : (⟨S4x60x60x384, .f32⟩ : BufTy).Contents (Elt F)) (x2 : (⟨S4x60x60x1, .i32⟩ : BufTy).Contents (Elt F)) : (⟨S4x3600x1, .f32⟩ : BufTy).Contents (Elt F) :=
  broadcastInDim S4x3600x1 ![0, 1] bcast_S4x3600_S4x3600x1_0_1 (val_main_v19 (F := F) x0 x2)
abbrev idx_main_v22 (i : S4x3600x1.Idx) : S4x3600.Idx := fun a => match a with
  | ⟨0, _⟩ => ⟨(i 0).val, (i 0).isLt⟩
  | ⟨1, _⟩ => ⟨(i 1).val, (i 1).isLt⟩
theorem val_main_v22_apply (x0 : (⟨S4x60x60x384, .f32⟩ : BufTy).Contents (Elt F)) (x2 : (⟨S4x60x60x1, .i32⟩ : BufTy).Contents (Elt F)) (i : S4x3600x1.Idx) :
    val_main_v22 (F := F) x0 x2 i = val_main_v19 (F := F) x0 x2 (idx_main_v22 i) := by
  unfold val_main_v22
  generalize val_main_v19 (F := F) x0 x2 = y
  exact broadcastInDim_apply _ bcast_S4x3600_S4x3600x1_0_1 y i (idx_main_v22 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)])

-- stablehlo.broadcast_in_dim
def val_main_v23 (x1 : (⟨S4x60x60x384, .f32⟩ : BufTy).Contents (Elt F)) (x3 : (⟨S4x60x60x1, .i32⟩ : BufTy).Contents (Elt F)) : (⟨S4x1x3600, .f32⟩ : BufTy).Contents (Elt F) :=
  broadcastInDim S4x1x3600 ![0, 2] bcast_S4x3600_S4x1x3600_0_2 (val_main_v21 (F := F) x1 x3)
abbrev idx_main_v23 (i : S4x1x3600.Idx) : S4x3600.Idx := fun a => match a with
  | ⟨0, _⟩ => ⟨(i 0).val, (i 0).isLt⟩
  | ⟨1, _⟩ => ⟨(i 2).val, (i 2).isLt⟩
theorem val_main_v23_apply (x1 : (⟨S4x60x60x384, .f32⟩ : BufTy).Contents (Elt F)) (x3 : (⟨S4x60x60x1, .i32⟩ : BufTy).Contents (Elt F)) (i : S4x1x3600.Idx) :
    val_main_v23 (F := F) x1 x3 i = val_main_v21 (F := F) x1 x3 (idx_main_v23 i) := by
  unfold val_main_v23
  generalize val_main_v21 (F := F) x1 x3 = y
  exact broadcastInDim_apply _ bcast_S4x3600_S4x1x3600_0_2 y i (idx_main_v23 i) (fun a => match a with
    | ⟨0, _⟩ => by show (i 0).val = if (4 : Nat) = 1 then 0 else (i 0).val; rw [if_neg (by decide)]
    | ⟨1, _⟩ => by show (i 2).val = if (3600 : Nat) = 1 then 0 else (i 2).val; rw [if_neg (by decide)])

-- stablehlo.broadcast_in_dim
def val_main_v24 (x0 : (⟨S4x60x60x384, .f32⟩ : BufTy).Contents (Elt F)) (x2 : (⟨S4x60x60x1, .i32⟩ : BufTy).Contents (Elt F)) : (⟨S4x3600x3600, .f32⟩ : BufTy).Contents (Elt F) :=
  broadcastInDim S4x3600x3600 ![0, 1, 2] bcast_S4x3600x1_S4x3600x3600_0_1_2 (val_main_v22 (F := F) x0 x2)
abbrev idx_main_v24 (i : S4x3600x3600.Idx) : S4x3600x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v24_apply (x0 : (⟨S4x60x60x384, .f32⟩ : BufTy).Contents (Elt F)) (x2 : (⟨S4x60x60x1, .i32⟩ : BufTy).Contents (Elt F)) (i : S4x3600x3600.Idx) :
    val_main_v24 (F := F) x0 x2 i = val_main_v22 (F := F) x0 x2 (idx_main_v24 i) := by
  unfold val_main_v24
  generalize val_main_v22 (F := F) x0 x2 = y
  exact broadcastInDim_apply _ bcast_S4x3600x1_S4x3600x3600_0_1_2 y i (idx_main_v24 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)]
    | ⟨2, _⟩ => by show 0 = if (1 : Nat) = 1 then 0 else (i 2).val; rw [if_pos rfl])

-- stablehlo.broadcast_in_dim
def val_main_v25 (x1 : (⟨S4x60x60x384, .f32⟩ : BufTy).Contents (Elt F)) (x3 : (⟨S4x60x60x1, .i32⟩ : BufTy).Contents (Elt F)) : (⟨S4x3600x3600, .f32⟩ : BufTy).Contents (Elt F) :=
  broadcastInDim S4x3600x3600 ![0, 1, 2] bcast_S4x1x3600_S4x3600x3600_0_1_2 (val_main_v23 (F := F) x1 x3)
abbrev idx_main_v25 (i : S4x3600x3600.Idx) : S4x1x3600.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v25_apply (x1 : (⟨S4x60x60x384, .f32⟩ : BufTy).Contents (Elt F)) (x3 : (⟨S4x60x60x1, .i32⟩ : BufTy).Contents (Elt F)) (i : S4x3600x3600.Idx) :
    val_main_v25 (F := F) x1 x3 i = val_main_v23 (F := F) x1 x3 (idx_main_v25 i) := by
  unfold val_main_v25
  generalize val_main_v23 (F := F) x1 x3 = y
  exact broadcastInDim_apply _ bcast_S4x1x3600_S4x3600x3600_0_1_2 y i (idx_main_v25 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (3600 : Nat) = 1 then 0 else (i 2).val; rw [if_neg (by decide)])

-- stablehlo.add
def val_main_v26 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  addf (val_main_v24 (F := F) x0 x2) (val_main_v25 (F := F) x1 x3)
theorem val_main_v26_apply (x0 x1 : (⟨S4x60x60x384, .f32⟩ : BufTy).Contents (Elt F)) (x2 x3 : (⟨S4x60x60x1, .i32⟩ : BufTy).Contents (Elt F)) (i : S4x3600x3600.Idx) :
    val_main_v26 (F := F) x0 x1 x2 x3 i = FloatOps.addf (val_main_v24 (F := F) x0 x2 i) (val_main_v25 (F := F) x1 x3 i) := rfl

-- stablehlo.dot_general
def val_main_v27 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  Host.dotGeneral dot_S4x3600x384_S4x3600x384_S4x3600x3600_2_2_1_1_0_0 none (val_main_v14 (F := F) x0 x2) (val_main_v17 (F := F) x1 x3)
theorem lhs_main_v27_0 (i : S4x3600x3600.Idx) (q : dot_S4x3600x384_S4x3600x384_S4x3600x3600_2_2_1_1_0_0.contr.Idx) :
    (dot_S4x3600x384_S4x3600x384_S4x3600x3600_2_2_1_1_0_0.lhsIdx i q 0).val = (i 0).val := by
  unfold DotDims.lhsIdx
  rw [dif_pos (show (0 : Fin S4x3600x384.rank) ∈ dot_S4x3600x384_S4x3600x384_S4x3600x3600_2_2_1_1_0_0.lhsBatch by decide)]
  rfl
theorem lhs_main_v27_1 (i : S4x3600x3600.Idx) (q : dot_S4x3600x384_S4x3600x384_S4x3600x3600_2_2_1_1_0_0.contr.Idx) :
    (dot_S4x3600x384_S4x3600x384_S4x3600x3600_2_2_1_1_0_0.lhsIdx i q 1).val = (i 1).val := by
  unfold DotDims.lhsIdx
  rw [dif_neg (show ¬(1 : Fin S4x3600x384.rank) ∈ dot_S4x3600x384_S4x3600x384_S4x3600x3600_2_2_1_1_0_0.lhsBatch by decide), dif_pos (show (1 : Fin S4x3600x384.rank) ∈ dot_S4x3600x384_S4x3600x384_S4x3600x3600_2_2_1_1_0_0.lhsNonContracting by decide)]
  rfl
theorem lhs_main_v27_2 (i : S4x3600x3600.Idx) (q : dot_S4x3600x384_S4x3600x384_S4x3600x3600_2_2_1_1_0_0.contr.Idx) :
    (dot_S4x3600x384_S4x3600x384_S4x3600x3600_2_2_1_1_0_0.lhsIdx i q 2).val = (q ⟨0, by decide⟩).val :=
  dot_S4x3600x384_S4x3600x384_S4x3600x3600_2_2_1_1_0_0.lhsIdx_val_of_single rfl i q
theorem rhs_main_v27_0 (i : S4x3600x3600.Idx) (q : dot_S4x3600x384_S4x3600x384_S4x3600x3600_2_2_1_1_0_0.contr.Idx) :
    (dot_S4x3600x384_S4x3600x384_S4x3600x3600_2_2_1_1_0_0.rhsIdx i q 0).val = (i 0).val := by
  unfold DotDims.rhsIdx
  rw [dif_pos (show (0 : Fin S4x3600x384.rank) ∈ dot_S4x3600x384_S4x3600x384_S4x3600x3600_2_2_1_1_0_0.rhsBatch by decide)]
  rfl
theorem rhs_main_v27_1 (i : S4x3600x3600.Idx) (q : dot_S4x3600x384_S4x3600x384_S4x3600x3600_2_2_1_1_0_0.contr.Idx) :
    (dot_S4x3600x384_S4x3600x384_S4x3600x3600_2_2_1_1_0_0.rhsIdx i q 1).val = (i 2).val := by
  unfold DotDims.rhsIdx
  rw [dif_neg (show ¬(1 : Fin S4x3600x384.rank) ∈ dot_S4x3600x384_S4x3600x384_S4x3600x3600_2_2_1_1_0_0.rhsBatch by decide), dif_pos (show (1 : Fin S4x3600x384.rank) ∈ dot_S4x3600x384_S4x3600x384_S4x3600x3600_2_2_1_1_0_0.rhsNonContracting by decide)]
  rfl
theorem rhs_main_v27_2 (i : S4x3600x3600.Idx) (q : dot_S4x3600x384_S4x3600x384_S4x3600x3600_2_2_1_1_0_0.contr.Idx) :
    (dot_S4x3600x384_S4x3600x384_S4x3600x3600_2_2_1_1_0_0.rhsIdx i q 2).val = (q ⟨0, by decide⟩).val :=
  dot_S4x3600x384_S4x3600x384_S4x3600x3600_2_2_1_1_0_0.rhsIdx_val_of_single rfl i q
abbrev lidx_main_v27 (i : S4x3600x3600.Idx) (k : Fin 384) : S4x3600x384.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v27 (i : S4x3600x3600.Idx) (k : Fin 384) : S4x3600x384.Idx := fun a => match a with
  | ⟨0, _⟩ => ⟨(i 0).val, (i 0).isLt⟩
  | ⟨1, _⟩ => ⟨(i 2).val, (i 2).isLt⟩
  | ⟨2, _⟩ => ⟨k.val, k.isLt⟩
/-- Stated at `F := Ideal`, where the host's `dot_general` is this sum; at a bit-exact instance it is an opaque function of its operands. -/
theorem val_main_v27_apply (x0 x1 : (⟨S4x60x60x384, .f32⟩ : BufTy).Contents (Elt Ideal)) (x2 x3 : (⟨S4x60x60x1, .i32⟩ : BufTy).Contents (Elt Ideal)) (i : S4x3600x3600.Idx) :
    val_main_v27 (F := Ideal) x0 x1 x2 x3 i = ∑ k : Fin 384, (val_main_v14 (F := Ideal) x0 x2) (lidx_main_v27 i k) * (val_main_v17 (F := Ideal) x1 x3) (ridx_main_v27 i k) := by
  unfold val_main_v27
  generalize val_main_v14 (F := Ideal) x0 x2 = y0
  generalize val_main_v17 (F := Ideal) x1 x3 = y1
  simp only [Host.dotGeneral]
  rw [Ideal.dotGeneral_apply, ← Equiv.sum_comp (ValueIdx.contrEquiv1 dot_S4x3600x384_S4x3600x384_S4x3600x3600_2_2_1_1_0_0 384 rfl rfl).symm]
  refine Finset.sum_congr rfl fun k _ => ?_
  have hk := ValueIdx.contrEquiv1_symm_val dot_S4x3600x384_S4x3600x384_S4x3600x3600_2_2_1_1_0_0 384 rfl rfl k
  have el : dot_S4x3600x384_S4x3600x384_S4x3600x3600_2_2_1_1_0_0.lhsIdx i ((ValueIdx.contrEquiv1 dot_S4x3600x384_S4x3600x384_S4x3600x3600_2_2_1_1_0_0 384 rfl rfl).symm k) = lidx_main_v27 i k := funext fun a => Fin.ext (by
    match a with
    | ⟨0, _⟩ => exact lhs_main_v27_0 _ _
    | ⟨1, _⟩ => exact lhs_main_v27_1 _ _
    | ⟨2, _⟩ => exact (lhs_main_v27_2 _ _).trans hk)
  have er : dot_S4x3600x384_S4x3600x384_S4x3600x3600_2_2_1_1_0_0.rhsIdx i ((ValueIdx.contrEquiv1 dot_S4x3600x384_S4x3600x384_S4x3600x3600_2_2_1_1_0_0 384 rfl rfl).symm k) = ridx_main_v27 i k := funext fun a => Fin.ext (by
    match a with
    | ⟨0, _⟩ => exact rhs_main_v27_0 _ _
    | ⟨1, _⟩ => exact rhs_main_v27_1 _ _
    | ⟨2, _⟩ => exact (rhs_main_v27_2 _ _).trans hk)
  rw [el, er]

-- stablehlo.constant
def val_main_cst_4 : (⟨S_, .f32⟩ : BufTy).Contents (Elt F) :=
  constant S_ .f32 0x40000000#32
theorem val_main_cst_4_apply (i : S_.Idx) :
    val_main_cst_4 (F := F) i = FloatOps.ofBits .f32 0x40000000#32 := rfl

-- stablehlo.broadcast_in_dim
def val_main_v28 : (⟨S4x3600x3600, .f32⟩ : BufTy).Contents (Elt F) :=
  broadcastInDim S4x3600x3600 ![] bcast_S_S4x3600x3600 (val_main_cst_4 (F := F))
abbrev idx_main_v28 (i : S4x3600x3600.Idx) : S_.Idx := fun a => a.elim0
theorem val_main_v28_apply (i : S4x3600x3600.Idx) :
    val_main_v28 (F := F) i = val_main_cst_4 (F := F) (idx_main_v28 i) := by
  unfold val_main_v28
  generalize val_main_cst_4 (F := F) = y
  exact broadcastInDim_apply _ bcast_S_S4x3600x3600 y i (idx_main_v28 i) (fun a => a.elim0)

-- stablehlo.multiply
def val_main_v29 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  mulf (val_main_v28 (F := F)) (val_main_v27 (F := F) x0 x1 x2 x3)
theorem val_main_v29_apply (x0 x1 : (⟨S4x60x60x384, .f32⟩ : BufTy).Contents (Elt F)) (x2 x3 : (⟨S4x60x60x1, .i32⟩ : BufTy).Contents (Elt F)) (i : S4x3600x3600.Idx) :
    val_main_v29 (F := F) x0 x1 x2 x3 i = FloatOps.mulf (val_main_v28 (F := F) i) (val_main_v27 (F := F) x0 x1 x2 x3 i) := rfl

-- stablehlo.subtract
def val_main_v30 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  subf (val_main_v26 (F := F) x0 x1 x2 x3) (val_main_v29 (F := F) x0 x1 x2 x3)
theorem val_main_v30_apply (x0 x1 : (⟨S4x60x60x384, .f32⟩ : BufTy).Contents (Elt F)) (x2 x3 : (⟨S4x60x60x1, .i32⟩ : BufTy).Contents (Elt F)) (i : S4x3600x3600.Idx) :
    val_main_v30 (F := F) x0 x1 x2 x3 i = FloatOps.subf (val_main_v26 (F := F) x0 x1 x2 x3 i) (val_main_v29 (F := F) x0 x1 x2 x3 i) := rfl

-- stablehlo.constant
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- stablehlo.broadcast_in_dim
def val_main_v31 : (⟨S4x3600x3600, .f32⟩ : BufTy).Contents (Elt F) :=
  broadcastInDim S4x3600x3600 ![] bcast_S_S4x3600x3600 (val_main_cst_5 (F := F))
abbrev idx_main_v31 (i : S4x3600x3600.Idx) : S_.Idx := fun a => a.elim0
theorem val_main_v31_apply (i : S4x3600x3600.Idx) :
    val_main_v31 (F := F) i = val_main_cst_5 (F := F) (idx_main_v31 i) := by
  unfold val_main_v31
  generalize val_main_cst_5 (F := F) = y
  exact broadcastInDim_apply _ bcast_S_S4x3600x3600 y i (idx_main_v31 i) (fun a => a.elim0)

-- stablehlo.maximum
def val_main_v32 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  maximumf (val_main_v30 (F := F) x0 x1 x2 x3) (val_main_v31 (F := F))
theorem val_main_v32_apply (x0 x1 : (⟨S4x60x60x384, .f32⟩ : BufTy).Contents (Elt F)) (x2 x3 : (⟨S4x60x60x1, .i32⟩ : BufTy).Contents (Elt F)) (i : S4x3600x3600.Idx) :
    val_main_v32 (F := F) x0 x1 x2 x3 i = FloatOps.maximumf (val_main_v30 (F := F) x0 x1 x2 x3 i) (val_main_v31 (F := F) i) := rfl

-- stablehlo.broadcast_in_dim
def val_main_v33 (x2 : (⟨S4x60x60x1, .i32⟩ : BufTy).Contents (Elt F)) : (⟨S4x3600x1, .i1⟩ : BufTy).Contents (Elt F) :=
  broadcastInDim S4x3600x1 ![0, 1] bcast_S4x3600_S4x3600x1_0_1 (val_main_v8 (F := F) x2)
abbrev idx_main_v33 (i : S4x3600x1.Idx) : S4x3600.Idx := fun a => match a with
  | ⟨0, _⟩ => ⟨(i 0).val, (i 0).isLt⟩
  | ⟨1, _⟩ => ⟨(i 1).val, (i 1).isLt⟩
theorem val_main_v33_apply (x2 : (⟨S4x60x60x1, .i32⟩ : BufTy).Contents (Elt F)) (i : S4x3600x1.Idx) :
    val_main_v33 (F := F) x2 i = val_main_v8 (F := F) x2 (idx_main_v33 i) := by
  unfold val_main_v33
  generalize val_main_v8 (F := F) x2 = y
  exact broadcastInDim_apply _ bcast_S4x3600_S4x3600x1_0_1 y i (idx_main_v33 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)])

-- stablehlo.broadcast_in_dim
def val_main_v34 (x3 : (⟨S4x60x60x1, .i32⟩ : BufTy).Contents (Elt F)) : (⟨S4x1x3600, .i1⟩ : BufTy).Contents (Elt F) :=
  broadcastInDim S4x1x3600 ![0, 2] bcast_S4x3600_S4x1x3600_0_2 (val_main_v11 (F := F) x3)
abbrev idx_main_v34 (i : S4x1x3600.Idx) : S4x3600.Idx := fun a => match a with
  | ⟨0, _⟩ => ⟨(i 0).val, (i 0).isLt⟩
  | ⟨1, _⟩ => ⟨(i 2).val, (i 2).isLt⟩
theorem val_main_v34_apply (x3 : (⟨S4x60x60x1, .i32⟩ : BufTy).Contents (Elt F)) (i : S4x1x3600.Idx) :
    val_main_v34 (F := F) x3 i = val_main_v11 (F := F) x3 (idx_main_v34 i) := by
  unfold val_main_v34
  generalize val_main_v11 (F := F) x3 = y
  exact broadcastInDim_apply _ bcast_S4x3600_S4x1x3600_0_2 y i (idx_main_v34 i) (fun a => match a with
    | ⟨0, _⟩ => by show (i 0).val = if (4 : Nat) = 1 then 0 else (i 0).val; rw [if_neg (by decide)]
    | ⟨1, _⟩ => by show (i 2).val = if (3600 : Nat) = 1 then 0 else (i 2).val; rw [if_neg (by decide)])

-- stablehlo.broadcast_in_dim
def val_main_v35 (x2 : (⟨S4x60x60x1, .i32⟩ : BufTy).Contents (Elt F)) : (⟨S4x3600x3600, .i1⟩ : BufTy).Contents (Elt F) :=
  broadcastInDim S4x3600x3600 ![0, 1, 2] bcast_S4x3600x1_S4x3600x3600_0_1_2 (val_main_v33 (F := F) x2)
abbrev idx_main_v35 (i : S4x3600x3600.Idx) : S4x3600x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v35_apply (x2 : (⟨S4x60x60x1, .i32⟩ : BufTy).Contents (Elt F)) (i : S4x3600x3600.Idx) :
    val_main_v35 (F := F) x2 i = val_main_v33 (F := F) x2 (idx_main_v35 i) := by
  unfold val_main_v35
  generalize val_main_v33 (F := F) x2 = y
  exact broadcastInDim_apply _ bcast_S4x3600x1_S4x3600x3600_0_1_2 y i (idx_main_v35 i) (fun a => match a with
    | ⟨0, _⟩ => by show (i 0).val = if (4 : Nat) = 1 then 0 else (i 0).val; rw [if_neg (by decide)]
    | ⟨1, _⟩ => by show (i 1).val = if (3600 : Nat) = 1 then 0 else (i 1).val; rw [if_neg (by decide)]
    | ⟨2, _⟩ => by show 0 = if (1 : Nat) = 1 then 0 else (i 2).val; rw [if_pos rfl])

-- stablehlo.broadcast_in_dim
def val_main_v36 (x3 : (⟨S4x60x60x1, .i32⟩ : BufTy).Contents (Elt F)) : (⟨S4x3600x3600, .i1⟩ : BufTy).Contents (Elt F) :=
  broadcastInDim S4x3600x3600 ![0, 1, 2] bcast_S4x1x3600_S4x3600x3600_0_1_2 (val_main_v34 (F := F) x3)
abbrev idx_main_v36 (i : S4x3600x3600.Idx) : S4x1x3600.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v36_apply (x3 : (⟨S4x60x60x1, .i32⟩ : BufTy).Contents (Elt F)) (i : S4x3600x3600.Idx) :
    val_main_v36 (F := F) x3 i = val_main_v34 (F := F) x3 (idx_main_v36 i) := by
  unfold val_main_v36
  generalize val_main_v34 (F := F) x3 = y
  exact broadcastInDim_apply _ bcast_S4x1x3600_S4x3600x3600_0_1_2 y i (idx_main_v36 i) (fun a => match a with
    | ⟨0, _⟩ => by show (i 0).val = if (4 : Nat) = 1 then 0 else (i 0).val; rw [if_neg (by decide)]
    | ⟨1, _⟩ => by show 0 = if (1 : Nat) = 1 then 0 else (i 1).val; rw [if_pos rfl]
    | ⟨2, _⟩ => by show (i 2).val = if (3600 : Nat) = 1 then 0 else (i 2).val; rw [if_neg (by decide)])

-- stablehlo.and
def val_main_v37 (x2 x3 : (⟨S4x60x60x1, .i32⟩ : BufTy).Contents (Elt F)) : (⟨S4x3600x3600, .i1⟩ : BufTy).Contents (Elt F) :=
  andi (val_main_v35 (F := F) x2) (val_main_v36 (F := F) x3)
theorem val_main_v37_apply (x2 x3 : (⟨S4x60x60x1, .i32⟩ : BufTy).Contents (Elt F)) (i : S4x3600x3600.Idx) :
    val_main_v37 (F := F) x2 x3 i = IntOp.andi (val_main_v35 (F := F) x2 i) (val_main_v36 (F := F) x3 i) := rfl

-- stablehlo.sqrt
def val_main_v38 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  Host.sqrt (val_main_v32 (F := F) x0 x1 x2 x3)
theorem val_main_v38_apply (x0 x1 : (⟨S4x60x60x384, .f32⟩ : BufTy).Contents (Elt F)) (x2 x3 : (⟨S4x60x60x1, .i32⟩ : BufTy).Contents (Elt F)) (i : S4x3600x3600.Idx) :
    val_main_v38 (F := F) x0 x1 x2 x3 i = FloatOps.hostUnary .sqrt (val_main_v32 (F := F) x0 x1 x2 x3 i) := rfl

-- stablehlo.constant
def val_main_cst_6 : (⟨S_, .f32⟩ : BufTy).Contents (Elt F) :=
  constant S_ .f32 0x4B189680#32
theorem val_main_cst_6_apply (i : S_.Idx) :
    val_main_cst_6 (F := F) i = FloatOps.ofBits .f32 0x4B189680#32 := rfl

-- stablehlo.convert
def val_main_call4_v0 : (⟨S_, .f32⟩ : BufTy).Contents (Elt F) :=
  id (val_main_cst_6 (F := F))
theorem val_main_call4_v0_apply (i : S_.Idx) :
    val_main_call4_v0 (F := F) i = (val_main_cst_6 (F := F) i) := rfl

-- stablehlo.broadcast_in_dim
def val_main_call4_v1 : (⟨S4x3600x3600, .f32⟩ : BufTy).Contents (Elt F) :=
  broadcastInDim S4x3600x3600 ![] bcast_S_S4x3600x3600 (val_main_call4_v0 (F := F))
abbrev idx_main_call4_v1 (i : S4x3600x3600.Idx) : S_.Idx := fun a => a.elim0
theorem val_main_call4_v1_apply (i : S4x3600x3600.Idx) :
    val_main_call4_v1 (F := F) i = val_main_call4_v0 (F := F) (idx_main_call4_v1 i) := by
  unfold val_main_call4_v1
  generalize val_main_call4_v0 (F := F) = y
  exact broadcastInDim_apply _ bcast_S_S4x3600x3600 y i (idx_main_call4_v1 i) (fun a => a.elim0)

-- stablehlo.select
def val_main_v39 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  select (val_main_v37 (F := F) x2 x3) (val_main_v38 (F := F) x0 x1 x2 x3) (val_main_call4_v1 (F := F))
theorem val_main_v39_apply (x0 x1 : (⟨S4x60x60x384, .f32⟩ : BufTy).Contents (Elt F)) (x2 x3 : (⟨S4x60x60x1, .i32⟩ : BufTy).Contents (Elt F)) (i : S4x3600x3600.Idx) :
    val_main_v39 (F := F) x0 x1 x2 x3 i = Scalar.select (val_main_v37 (F := F) x2 x3 i) (val_main_v38 (F := F) x0 x1 x2 x3 i) (val_main_call4_v1 (F := F) i) := rfl

-- stablehlo.iota
def val_main_call5_v0 : (⟨S4x3600x3600, .i32⟩ : BufTy).Contents (Elt F) :=
  iotaInDim S4x3600x3600 32 2
theorem val_main_call5_v0_apply (i : S4x3600x3600.Idx) :
    val_main_call5_v0 (F := F) i = BitVec.ofNat 32 (i 2).val := rfl

-- stablehlo.constant
def val_main_call5_cst : (⟨S_, .f32⟩ : BufTy).Contents (Elt F) :=
  constant S_ .f32 0x7F800000#32
theorem val_main_call5_cst_apply (i : S_.Idx) :
    val_main_call5_cst (F := F) i = FloatOps.ofBits .f32 0x7F800000#32 := rfl

-- stablehlo.constant
def val_main_call5_c : (⟨S_, .i32⟩ : BufTy).Contents (Elt F) :=
  constantI S_ 32 0#32
theorem val_main_call5_c_apply (i : S_.Idx) :
    val_main_call5_c (F := F) i = 0#32 := rfl

-- stablehlo.reduce
def val_main_call5_v1_0 (x0 x1 : (⟨S4x60x60x384, .f32⟩ : BufTy).Contents (Elt F)) (x2 x3 : (⟨S4x60x60x1, .i32⟩ : BufTy).Contents (Elt F)) : (⟨S4x3600, .f32⟩ : BufTy).Contents (Elt F) :=
  (fun j => (Host.argReduce reducer_argmin_f32_i32 (val_main_v39 (F := F) x0 x1 x2 x3) (val_main_call5_v0 (F := F)) (val_main_call5_cst (F := F)) (val_main_call5_c (F := F)) reducesTo_S4x3600x3600_S4x3600_d2 h_S_ j).1)

-- stablehlo.reduce
def val_main_v40 (x0 x1 : (⟨S4x60x60x384, .f32⟩ : BufTy).Contents (Elt F)) (x2 x3 : (⟨S4x60x60x1, .i32⟩ : BufTy).Contents (Elt F)) : (⟨S4x3600, .i32⟩ : BufTy).Contents (Elt F) :=
  (fun j => (Host.argReduce reducer_argmin_f32_i32 (val_main_v39 (F := F) x0 x1 x2 x3) (val_main_call5_v0 (F := F)) (val_main_call5_cst (F := F)) (val_main_call5_c (F := F)) reducesTo_S4x3600x3600_S4x3600_d2 h_S_ j).2)

-- stablehlo.iota
def val_main_call6_v0 : (⟨S4x3600x3600, .i32⟩ : BufTy).Contents (Elt F) :=
  iotaInDim S4x3600x3600 32 1
theorem val_main_call6_v0_apply (i : S4x3600x3600.Idx) :
    val_main_call6_v0 (F := F) i = BitVec.ofNat 32 (i 1).val := rfl

-- stablehlo.constant
def val_main_call6_cst : (⟨S_, .f32⟩ : BufTy).Contents (Elt F) :=
  constant S_ .f32 0x7F800000#32
theorem val_main_call6_cst_apply (i : S_.Idx) :
    val_main_call6_cst (F := F) i = FloatOps.ofBits .f32 0x7F800000#32 := rfl

-- stablehlo.constant
def val_main_call6_c : (⟨S_, .i32⟩ : BufTy).Contents (Elt F) :=
  constantI S_ 32 0#32
theorem val_main_call6_c_apply (i : S_.Idx) :
    val_main_call6_c (F := F) i = 0#32 := rfl

-- stablehlo.reduce
def val_main_call6_v1_0 (x0 x1 : (⟨S4x60x60x384, .f32⟩ : BufTy).Contents (Elt F)) (x2 x3 : (⟨S4x60x60x1, .i32⟩ : BufTy).Contents (Elt F)) : (⟨S4x3600, .f32⟩ : BufTy).Contents (Elt F) :=
  (fun j => (Host.argReduce reducer_argmin_f32_i32 (val_main_v39 (F := F) x0 x1 x2 x3) (val_main_call6_v0 (F := F)) (val_main_call6_cst (F := F)) (val_main_call6_c (F := F)) reducesTo_S4x3600x3600_S4x3600_d1 h_S_ j).1)

-- stablehlo.reduce
def val_main_v41 (x0 x1 : (⟨S4x60x60x384, .f32⟩ : BufTy).Contents (Elt F)) (x2 x3 : (⟨S4x60x60x1, .i32⟩ : BufTy).Contents (Elt F)) : (⟨S4x3600, .i32⟩ : BufTy).Contents (Elt F) :=
  (fun j => (Host.argReduce reducer_argmin_f32_i32 (val_main_v39 (F := F) x0 x1 x2 x3) (val_main_call6_v0 (F := F)) (val_main_call6_cst (F := F)) (val_main_call6_c (F := F)) reducesTo_S4x3600x3600_S4x3600_d1 h_S_ j).2)

-- stablehlo.constant
def val_main_cst_7 : (⟨S_, .f32⟩ : BufTy).Contents (Elt F) :=
  constant S_ .f32 0x56B5E621#32
theorem val_main_cst_7_apply (i : S_.Idx) :
    val_main_cst_7 (F := F) i = FloatOps.ofBits .f32 0x56B5E621#32 := rfl

-- stablehlo.convert
def val_main_call7_v0 : (⟨S_, .f32⟩ : BufTy).Contents (Elt F) :=
  id (val_main_cst_7 (F := F))
theorem val_main_call7_v0_apply (i : S_.Idx) :
    val_main_call7_v0 (F := F) i = (val_main_cst_7 (F := F) i) := rfl

-- stablehlo.broadcast_in_dim
def val_main_call7_v1 : (⟨S4x3600x3600, .f32⟩ : BufTy).Contents (Elt F) :=
  broadcastInDim S4x3600x3600 ![] bcast_S_S4x3600x3600 (val_main_call7_v0 (F := F))
abbrev idx_main_call7_v1 (i : S4x3600x3600.Idx) : S_.Idx := fun a => a.elim0
theorem val_main_call7_v1_apply (i : S4x3600x3600.Idx) :
    val_main_call7_v1 (F := F) i = val_main_call7_v0 (F := F) (idx_main_call7_v1 i) := by
  unfold val_main_call7_v1
  generalize val_main_call7_v0 (F := F) = y
  exact broadcastInDim_apply _ bcast_S_S4x3600x3600 y i (idx_main_call7_v1 i) (fun a => a.elim0)

-- stablehlo.select
def val_main_v42 (x0 x1 : (⟨S4x60x60x384, .f32⟩ : BufTy).Contents (Elt F)) (x2 x3 : (⟨S4x60x60x1, .i32⟩ : BufTy).Contents (Elt F)) : (⟨S4x3600x3600, .f32⟩ : BufTy).Contents (Elt F) :=
  select (val_main_v37 (F := F) x2 x3) (val_main_v32 (F := F) x0 x1 x2 x3) (val_main_call7_v1 (F := F))
theorem val_main_v42_apply (x0 x1 : (⟨S4x60x60x384, .f32⟩ : BufTy).Contents (Elt F)) (x2 x3 : (⟨S4x60x60x1, .i32⟩ : BufTy).Contents (Elt F)) (i : S4x3600x3600.Idx) :
    val_main_v42 (F := F) x0 x1 x2 x3 i = Scalar.select (val_main_v37 (F := F) x2 x3 i) (val_main_v32 (F := F) x0 x1 x2 x3 i) (val_main_call7_v1 (F := F) i) := rfl

-- stablehlo.constant
def val_main_cst_8 : (⟨S_, .f32⟩ : BufTy).Contents (Elt F) :=
  constant S_ .f32 0x7F800000#32
theorem val_main_cst_8_apply (i : S_.Idx) :
    val_main_cst_8 (F := F) i = FloatOps.ofBits .f32 0x7F800000#32 := rfl

-- stablehlo.reduce
def val_main_v43 (x0 x1 : (⟨S4x60x60x384, .f32⟩ : BufTy).Contents (Elt F)) (x2 x3 : (⟨S4x60x60x1, .i32⟩ : BufTy).Contents (Elt F)) : (⟨S4x3600, .f32⟩ : BufTy).Contents (Elt F) :=
  Host.reduce FloatOps.minimumf (val_main_v42 (F := F) x0 x1 x2 x3) (val_main_cst_8 (F := F)) reducesTo_S4x3600x3600_S4x3600_d2 h_S_

-- stablehlo.constant
def val_main_cst_9 : (⟨S_, .f32⟩ : BufTy).Contents (Elt F) :=
  constant S_ .f32 0x7F800000#32
theorem val_main_cst_9_apply (i : S_.Idx) :
    val_main_cst_9 (F := F) i = FloatOps.ofBits .f32 0x7F800000#32 := rfl

-- stablehlo.reduce
def val_main_v44 (x0 x1 : (⟨S4x60x60x384, .f32⟩ : BufTy).Contents (Elt F)) (x2 x3 : (⟨S4x60x60x1, .i32⟩ : BufTy).Contents (Elt F)) : (⟨S4x3600, .f32⟩ : BufTy).Contents (Elt F) :=
  Host.reduce FloatOps.minimumf (val_main_v42 (F := F) x0 x1 x2 x3) (val_main_cst_9 (F := F)) reducesTo_S4x3600x3600_S4x3600_d1 h_S_

/-- The term the Run module names `res_main_v40` is the stage. -/
theorem val_main_v40_eq (m : (ℓ : Loc nD τ sig) → Buf (Elt F) ℓ) (c : Dev nD) :
    Cert.ReferenceIdeal.Value.res_main_v40 m c = val_main_v40 (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v40; rfl

/-- The term the Run module names `res_main_v41` is the stage. -/
theorem val_main_v41_eq (m : (ℓ : Loc nD τ sig) → Buf (Elt F) ℓ) (c : Dev nD) :
    Cert.ReferenceIdeal.Value.res_main_v41 m c = val_main_v41 (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v41; rfl

/-- The term the Run module names `res_main_v43` is the stage. -/
theorem val_main_v43_eq (m : (ℓ : Loc nD τ sig) → Buf (Elt F) ℓ) (c : Dev nD) :
    Cert.ReferenceIdeal.Value.res_main_v43 m c = val_main_v43 (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v43; rfl

/-- The term the Run module names `res_main_v44` is the stage. -/
theorem val_main_v44_eq (m : (ℓ : Loc nD τ sig) → Buf (Elt F) ℓ) (c : Dev nD) :
    Cert.ReferenceIdeal.Value.res_main_v44 m c = val_main_v44 (F := F) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v44; rfl

end Cert.ReferenceIdeal.Read

end
-- ==== Proof.Table.lean ====
/-
  The table of squared distances that the reference forms: every entry is `⊤` or a real between 0 and 1536, so the
  rooted table, from which the reference takes the places of its least entries, is ordered as the unrooted one.
-/
module

public import proofs.«01_k».proof.Proof.Bounds
public import proofs.«01_k».proof.Proof.ReferenceRead

@[expose] public section

noncomputable section

namespace Cert.ReferenceIdeal.Read

open Idealize.ShloMosaic Cert.Match

variable (x0 x1 : (⟨S4x60x60x384, .f32⟩ : BufTy).Contents (Elt Ideal))
variable (x2 x3 : (⟨S4x60x60x1, .i32⟩ : BufTy).Contents (Elt Ideal))

theorem tame_v2 (i : S4x60x60x384.Idx) : Tame 1 (val_main_v2 (F := Ideal) x0 i) := by
  rw [val_main_v2_apply, val_main_v1_apply, val_main_v0_apply, val_main_call0_v2_apply, val_main_call0_v1_apply,
    val_main_call0_cst_apply]
  have h := tame_div_norm (fun k => x0 (idx_main_call0_v1 (idx_main_call0_v2 (idx_main_v1 i)) k)) (i 3)
  have e : idx_main_call0_v1 (idx_main_call0_v2 (idx_main_v1 i)) (i 3) = i := by
    funext a
    match a with
    | ⟨0, _⟩ => rfl
    | ⟨1, _⟩ => rfl
    | ⟨2, _⟩ => rfl
    | ⟨3, _⟩ => rfl
  simp only [e] at h
  rw [Ideal.ofBits_def, Ideal.ofBits_zero_f32, zero_add]
  exact h

theorem tame_v5 (i : S4x60x60x384.Idx) : Tame 1 (val_main_v5 (F := Ideal) x1 i) := by
  rw [val_main_v5_apply, val_main_v4_apply, val_main_v3_apply, val_main_call1_v2_apply, val_main_call1_v1_apply,
    val_main_call1_cst_apply]
  have h := tame_div_norm (fun k => x1 (idx_main_call1_v1 (idx_main_call1_v2 (idx_main_v4 i)) k)) (i 3)
  have e : idx_main_call1_v1 (idx_main_call1_v2 (idx_main_v4 i)) (i 3) = i := by
    funext a
    match a with
    | ⟨0, _⟩ => rfl
    | ⟨1, _⟩ => rfl
    | ⟨2, _⟩ => rfl
    | ⟨3, _⟩ => rfl
  simp only [e] at h
  rw [Ideal.ofBits_def, Ideal.ofBits_zero_f32, zero_add]
  exact h

theorem tame_v14 (i : S4x3600x384.Idx) : Tame 1 (val_main_v14 (F := Ideal) x0 x2 i) := by
  rw [val_main_v14_apply, Scalar.select]
  split
  · rw [val_main_v13_apply]; exact tame_v2 x0 _
  · rw [val_main_call2_v2_apply, val_main_call2_v0_apply, val_main_cst_apply, Ideal.ofBits_def,
      Ideal.ofBits_zero_f32]
    exact .zero zero_le_one

theorem tame_v17 (i : S4x3600x384.Idx) : Tame 1 (val_main_v17 (F := Ideal) x1 x3 i) := by
  rw [val_main_v17_apply, Scalar.select]
  split
  · rw [val_main_v16_apply]; exact tame_v5 x1 _
  · rw [val_main_call3_v2_apply, val_main_call3_v0_apply, val_main_cst_1_apply, Ideal.ofBits_def,
      Ideal.ofBits_zero_f32]
    exact .zero zero_le_one

/-- The sum of 384 numbers within one. -/
theorem tame_sum (f : Fin 384 → EReal) (h : ∀ k, Tame 1 (f k)) : Tame 384 (∑ k, f k) := by
  have := Tame.sum Finset.univ f h
  rwa [Finset.card_univ, Fintype.card_fin, mul_one, show ((384 : ℕ) : ℝ) = 384 by norm_num] at this

theorem tame_mul {x y : EReal} (hx : Tame 1 x) (hy : Tame 1 y) : Tame 1 (x * y) := by
  have := hx.mul zero_le_one zero_le_one hy
  rwa [one_mul] at this

theorem tame_v19 (i : S4x3600.Idx) : Tame 384 (val_main_v19 (F := Ideal) x0 x2 i) := by
  rw [val_main_v19_apply, val_main_cst_2_apply, Ideal.ofBits_def, Ideal.ofBits_zero_f32, zero_add]
  refine tame_sum _ fun k => ?_
  rw [val_main_v18_apply]
  exact tame_mul (tame_v14 x0 x2 _) (tame_v14 x0 x2 _)

theorem tame_v21 (i : S4x3600.Idx) : Tame 384 (val_main_v21 (F := Ideal) x1 x3 i) := by
  rw [val_main_v21_apply, val_main_cst_3_apply, Ideal.ofBits_def, Ideal.ofBits_zero_f32, zero_add]
  refine tame_sum _ fun k => ?_
  rw [val_main_v20_apply]
  exact tame_mul (tame_v17 x1 x3 _) (tame_v17 x1 x3 _)

theorem tame_v27 (i : S4x3600x3600.Idx) : Tame 384 (val_main_v27 (F := Ideal) x0 x1 x2 x3 i) := by
  rw [val_main_v27_apply]
  exact tame_sum _ fun k => tame_mul (tame_v14 x0 x2 _) (tame_v17 x1 x3 _)

/-- The clamped squared distance, spelt out: the two squared norms, less twice the inner product, at least zero. -/
theorem v32_eq (i : S4x3600x3600.Idx) :
    val_main_v32 (F := Ideal) x0 x1 x2 x3 i
      = max (val_main_v19 (F := Ideal) x0 x2 (idx_main_v22 (idx_main_v24 i))
            + val_main_v21 (F := Ideal) x1 x3 (idx_main_v23 (idx_main_v25 i))
          - Ideal.ofBits .f32 0x40000000#32 * val_main_v27 (F := Ideal) x0 x1 x2 x3 i) 0 := by
  rw [val_main_v32_apply, val_main_v30_apply, val_main_v29_apply, val_main_v26_apply, val_main_v24_apply,
    val_main_v22_apply, val_main_v25_apply, val_main_v23_apply, val_main_v28_apply, val_main_cst_4_apply,
    val_main_v31_apply, val_main_cst_5_apply, Ideal.ofBits_def, Ideal.ofBits_def, Ideal.ofBits_zero_f32]
  rfl

theorem isDist_v32 (i : S4x3600x3600.Idx) : IsDist (val_main_v32 (F := Ideal) x0 x1 x2 x3 i) := by
  rw [v32_eq, two_eq]
  refine isDist_max ?_
  have h := ((tame_v19 x0 x2 (idx_main_v22 (idx_main_v24 i))).add
    (tame_v21 x1 x3 (idx_main_v23 (idx_main_v25 i)))).sub
    ((Tame.real (B := 2) (r := 2) (by norm_num)).mul (by norm_num) (by norm_num) (tame_v27 x0 x1 x2 x3 i))
  rwa [show (384 + 384 + 2 * 384 : ℝ) = 1536 by norm_num] at h

/-- An entry of the unrooted table: the squared distance, or the mark of an invalid pair. -/
theorem v42_eq (i : S4x3600x3600.Idx) :
    val_main_v42 (F := Ideal) x0 x1 x2 x3 i
      = Scalar.select (val_main_v37 (F := Ideal) x2 x3 i) (val_main_v32 (F := Ideal) x0 x1 x2 x3 i)
          (Ideal.ofBits .f32 0x56B5E621#32) := by
  rw [val_main_v42_apply, val_main_call7_v1_apply, val_main_call7_v0_apply]
  rfl

/-- An entry of the rooted table. -/
theorem v39_eq (i : S4x3600x3600.Idx) :
    val_main_v39 (F := Ideal) x0 x1 x2 x3 i
      = Scalar.select (val_main_v37 (F := Ideal) x2 x3 i) (Ideal.sqrt (val_main_v32 (F := Ideal) x0 x1 x2 x3 i))
          (Ideal.ofBits .f32 0x4B189680#32) := by
  rw [val_main_v39_apply, val_main_call4_v1_apply, val_main_call4_v0_apply, val_main_v38_apply]
  rfl

/-- The rooted table is ordered as the unrooted one. -/
theorem v42_lt_iff (i j : S4x3600x3600.Idx) :
    val_main_v42 (F := Ideal) x0 x1 x2 x3 i < val_main_v42 (F := Ideal) x0 x1 x2 x3 j
      ↔ val_main_v39 (F := Ideal) x0 x1 x2 x3 i < val_main_v39 (F := Ideal) x0 x1 x2 x3 j := by
  rw [v42_eq, v42_eq, v39_eq, v39_eq]
  exact key_order (isDist_v32 x0 x1 x2 x3 i) (isDist_v32 x0 x1 x2 x3 j)

end Cert.ReferenceIdeal.Read
-- ==== Proof.ReferenceLeast.lean ====
/-
  What the reference's four results are at an index: along a row, or a column, of the table of squared distances the
  first place of the least entry, and that entry.
-/
module

public import proofs.«01_k».proof.Proof.Least
public import proofs.«01_k».proof.Proof.Table
public import Idealize.ShloMosaic.Lib.Pointwise.Reduce

@[expose] public section

noncomputable section

namespace Cert.ReferenceIdeal.Read

open Idealize.ShloMosaic Cert.Match Cert.ReferenceIdeal.Gen

theorem select_or (p q : Bool) {α : Type} (u v : α) :
    Scalar.select (BitVec.ofBool p ||| BitVec.ofBool q) u v = if p || q then u else v := by
  rw [BitVec.ofBool_or_ofBool]; cases p || q <;> rfl

theorem select_or_and (p q r s : Bool) {α : Type} (u v : α) :
    Scalar.select ((BitVec.ofBool p ||| BitVec.ofBool q) ||| (BitVec.ofBool r &&& BitVec.ofBool s)) u v
      = if (p || q) || (r && s) then u else v := by
  rw [BitVec.ofBool_or_ofBool, BitVec.ofBool_and_ofBool, select_or]

/-- The reference's step of its search for the least entry takes one of its two pairs, the one before the other. -/
theorem reducer_before (a b : EReal × BitVec 32) :
    (reducer_argmin_f32_i32 (F := Ideal) a b = a ∨ reducer_argmin_f32_i32 (F := Ideal) a b = b)
      ∧ Before (reducer_argmin_f32_i32 (F := Ideal) a b) a ∧ Before (reducer_argmin_f32_i32 (F := Ideal) a b) b := by
  obtain ⟨x, u⟩ := a
  obtain ⟨y, v⟩ := b
  have e : reducer_argmin_f32_i32 (F := Ideal) (x, u) (y, v)
      = (Scalar.select (BitVec.ofBool (decide (x < y)) ||| BitVec.ofBool (decide (x ≠ x))) x y,
         Scalar.select ((BitVec.ofBool (decide (x < y)) ||| BitVec.ofBool (decide (x ≠ x)))
           ||| (BitVec.ofBool (decide (x = y)) &&& BitVec.ofBool (u.slt v))) u v) := rfl
  rw [e, select_or, select_or_and]
  rcases lt_trichotomy x y with h | h | h
  · simp only [h, h.ne, decide_true, Bool.true_or, if_true]
    exact ⟨by simp, Before.rfl _, Or.inl h⟩
  · subst h
    simp only [lt_self_iff_false, ne_eq, not_true_eq_false, decide_false, decide_true, Bool.or_false, Bool.false_or,
      Bool.true_and, Bool.false_eq_true, if_false]
    by_cases hs : u.toInt < v.toInt
    · have e3 : u.slt v = true := by rw [BitVec.slt]; exact decide_eq_true hs
      rw [e3, if_pos rfl]
      exact ⟨Or.inl rfl, Before.rfl _, Or.inr ⟨rfl, hs.le⟩⟩
    · have e3 : u.slt v = false := by rw [BitVec.slt]; exact decide_eq_false hs
      rw [e3, if_neg (by simp)]
      exact ⟨Or.inr rfl, Or.inr ⟨rfl, not_lt.1 hs⟩, Before.rfl _⟩
  · simp only [not_lt.2 h.le, h.ne', ne_eq, not_true_eq_false, decide_false, Bool.or_false, Bool.false_and,
      Bool.false_eq_true, if_false]
    exact ⟨by simp, Or.inl h, Before.rfl _⟩

section
variable (x : FVec Ideal S4x3600x3600 .f32)

/-- Along the last axis of any table. -/
theorem argmin_row {b : Fin 4} {i : Fin 3600} {g : ℕ → EReal} {c : ℕ}
    {V : S4x3600.Idx → BitVec 32} (hV : V = fun j => (Host.argReduce (reducer_argmin_f32_i32 (F := Ideal)) x (val_main_call5_v0 (F := Ideal))
      (val_main_call5_cst (F := Ideal)) (val_main_call5_c (F := Ideal)) reducesTo_S4x3600x3600_S4x3600_d2 h_S_ j).2)
    (h : FirstN g 3600 c)
    (hx : ∀ k : Fin 3600, x (ix3 b i k) = g k) :
    V (ix2 b i) = BitVec.ofNat 32 c :=
  argmin_at hV reducer_before (ix2 b i)
    (fun k => (val_main_call5_cst_apply k).trans inf_eq) (fun k => val_main_call5_c_apply k) h (by norm_num)
    (fun k => ix3 b i k) (fun p => Shape.ReducesTo.fiber_r3_a2 _ _ p) hx (fun k => val_main_call5_v0_apply _)

/-- Along the middle axis of any table. -/
theorem argmin_col {b : Fin 4} {j : Fin 3600} {g : ℕ → EReal} {c : ℕ}
    {V : S4x3600.Idx → BitVec 32} (hV : V = fun j => (Host.argReduce (reducer_argmin_f32_i32 (F := Ideal)) x (val_main_call6_v0 (F := Ideal))
      (val_main_call6_cst (F := Ideal)) (val_main_call6_c (F := Ideal)) reducesTo_S4x3600x3600_S4x3600_d1 h_S_ j).2)
    (h : FirstN g 3600 c)
    (hx : ∀ k : Fin 3600, x (ix3 b k j) = g k) :
    V (ix2 b j) = BitVec.ofNat 32 c :=
  argmin_at hV reducer_before (ix2 b j)
    (fun k => (val_main_call6_cst_apply k).trans inf_eq) (fun k => val_main_call6_c_apply k) h (by norm_num)
    (fun k => ix3 b k j) (fun p => Shape.ReducesTo.fiber_r3_a1 _ _ p) hx (fun k => val_main_call6_v0_apply _)

end

variable (x0 x1 : (⟨S4x60x60x384, .f32⟩ : BufTy).Contents (Elt Ideal))
variable (x2 x3 : (⟨S4x60x60x1, .i32⟩ : BufTy).Contents (Elt Ideal))

/-- The table, its places given by numbers. -/
def tab (b i j : ℕ) : EReal :=
  if h : b < 4 ∧ i < 3600 ∧ j < 3600 then
    val_main_v42 (F := Ideal) x0 x1 x2 x3 (ix3 (⟨b, h.1⟩ : Fin 4) (⟨i, h.2.1⟩ : Fin 3600) (⟨j, h.2.2⟩ : Fin 3600))
  else ⊤

/-- The rooted table, its places given by numbers. -/
def tabRoot (b i j : ℕ) : EReal :=
  if h : b < 4 ∧ i < 3600 ∧ j < 3600 then
    val_main_v39 (F := Ideal) x0 x1 x2 x3 (ix3 (⟨b, h.1⟩ : Fin 4) (⟨i, h.2.1⟩ : Fin 3600) (⟨j, h.2.2⟩ : Fin 3600))
  else ⊤

theorem tab_ix3 (b : Fin 4) (i j : Fin 3600) :
    val_main_v42 (F := Ideal) x0 x1 x2 x3 (ix3 b i j) = tab x0 x1 x2 x3 b i j := by
  have h : b.val < 4 ∧ i.val < 3600 ∧ j.val < 3600 := ⟨b.isLt, i.isLt, j.isLt⟩
  unfold tab; rw [dif_pos h]

theorem tabRoot_ix3 (b : Fin 4) (i j : Fin 3600) :
    val_main_v39 (F := Ideal) x0 x1 x2 x3 (ix3 b i j) = tabRoot x0 x1 x2 x3 b i j := by
  have h : b.val < 4 ∧ i.val < 3600 ∧ j.val < 3600 := ⟨b.isLt, i.isLt, j.isLt⟩
  unfold tabRoot; rw [dif_pos h]

theorem tab_lt_iff {b i j b' i' j' : ℕ} (h : b < 4 ∧ i < 3600 ∧ j < 3600) (h' : b' < 4 ∧ i' < 3600 ∧ j' < 3600) :
    tab x0 x1 x2 x3 b i j < tab x0 x1 x2 x3 b' i' j'
      ↔ tabRoot x0 x1 x2 x3 b i j < tabRoot x0 x1 x2 x3 b' i' j' := by
  unfold tab tabRoot
  rw [dif_pos h, dif_pos h', dif_pos h, dif_pos h']
  exact v42_lt_iff x0 x1 x2 x3 _ _

theorem v40_fun :
    val_main_v40 (F := Ideal) x0 x1 x2 x3
      = fun j => (Host.argReduce (reducer_argmin_f32_i32 (F := Ideal)) (val_main_v39 (F := Ideal) x0 x1 x2 x3)
          (val_main_call5_v0 (F := Ideal)) (val_main_call5_cst (F := Ideal)) (val_main_call5_c (F := Ideal))
          reducesTo_S4x3600x3600_S4x3600_d2 h_S_ j).2 := rfl

theorem v40_ix2 {b : Fin 4} {i : Fin 3600} {c : ℕ} (h : FirstN (fun k => tab x0 x1 x2 x3 b i k) 3600 c) :
    val_main_v40 (F := Ideal) x0 x1 x2 x3 (ix2 b i) = BitVec.ofNat 32 c := by
  have h' : FirstN (fun k => tabRoot x0 x1 x2 x3 b i k) 3600 c := h.map fun p hp q hq =>
    tab_lt_iff (b := b) (i := i) (j := p) (b' := b) (i' := i) (j' := q) x0 x1 x2 x3 (And.intro b.isLt (And.intro i.isLt hp))
      (And.intro b.isLt (And.intro i.isLt hq))
  exact argmin_row (val_main_v39 (F := Ideal) x0 x1 x2 x3) (v40_fun x0 x1 x2 x3) h' fun k => tabRoot_ix3 x0 x1 x2 x3 b i k

theorem v41_fun :
    val_main_v41 (F := Ideal) x0 x1 x2 x3
      = fun j => (Host.argReduce (reducer_argmin_f32_i32 (F := Ideal)) (val_main_v39 (F := Ideal) x0 x1 x2 x3)
          (val_main_call6_v0 (F := Ideal)) (val_main_call6_cst (F := Ideal)) (val_main_call6_c (F := Ideal))
          reducesTo_S4x3600x3600_S4x3600_d1 h_S_ j).2 := rfl

theorem v41_ix2 {b : Fin 4} {j : Fin 3600} {c : ℕ} (h : FirstN (fun k => tab x0 x1 x2 x3 b k j) 3600 c) :
    val_main_v41 (F := Ideal) x0 x1 x2 x3 (ix2 b j) = BitVec.ofNat 32 c := by
  have h' : FirstN (fun k => tabRoot x0 x1 x2 x3 b k j) 3600 c := h.map fun p hp q hq =>
    tab_lt_iff (b := b) (i := p) (j := j) (b' := b) (i' := q) (j' := j) x0 x1 x2 x3 (And.intro b.isLt (And.intro hp j.isLt))
      (And.intro b.isLt (And.intro hq j.isLt))
  exact argmin_col (val_main_v39 (F := Ideal) x0 x1 x2 x3) (v41_fun x0 x1 x2 x3) h' fun k => tabRoot_ix3 x0 x1 x2 x3 b k j

theorem v43_ix2 {b : Fin 4} {i : Fin 3600} {c : ℕ} (h : FirstN (fun k => tab x0 x1 x2 x3 b i k) 3600 c) :
    val_main_v43 (F := Ideal) x0 x1 x2 x3 (ix2 b i) = tab x0 x1 x2 x3 b i c := by
  unfold val_main_v43
  rw [Host.reduce_eq_fold, Shape.ReducesTo.fold_fiber_r3_a2,
    (val_main_cst_8_apply (F := Ideal) (Shape.Idx.first h_S_)).trans inf_eq]
  exact fold_min_eq h _ fun k => tab_ix3 x0 x1 x2 x3 b i k

theorem v44_ix2 {b : Fin 4} {j : Fin 3600} {c : ℕ} (h : FirstN (fun k => tab x0 x1 x2 x3 b k j) 3600 c) :
    val_main_v44 (F := Ideal) x0 x1 x2 x3 (ix2 b j) = tab x0 x1 x2 x3 b c j := by
  unfold val_main_v44
  rw [Host.reduce_eq_fold, Shape.ReducesTo.fold_fiber_r3_a1,
    (val_main_cst_9_apply (F := Ideal) (Shape.Idx.first h_S_)).trans inf_eq]
  exact fold_min_eq h _ fun k => tab_ix3 x0 x1 x2 x3 b k j

end Cert.ReferenceIdeal.Read

end
-- ==== Proof.Prologue.lean ====
/-
  What the region's input arrays hold at its entry: the host operations before it are the reference's own, so each array
  is one of the reference's intermediate arrays, or that array transposed, recast, or widened from bits to words.
-/
module

public import proofs.«01_k».proof.Proof.ReferenceRead
public import proofs.«01_k».proof.Proof.Gen.KernelIdeal.Frame.Runs
public import Idealize.ShloMosaic.Lib.StableHlo.ReadAt

@[expose] public section

set_option maxRecDepth 16384

noncomputable section

namespace Cert.KernelIdeal.Dist

open Cert.KernelIdeal Cert.KernelIdeal.Gen Idealize.ShloMosaic Idealize.ShloMosaic.TcCoe Idealize.ShloMosaic.Tactic
open Cert.ReferenceIdeal.Read Idealize.SL.Sem

variable (m : (ℓ : Loc nD τ sig) → Buf (Elt Ideal) ℓ) (c : Dev nD)

/-- The six arrays that the region reads. -/
theorem entry :
    V m c main_v14 = val_main_v14 (F := Ideal) (m ((c : Thread nD τ).loc main_arg0)) (m ((c : Thread nD τ).loc main_arg2))
    ∧ V m c main_v24 = transpose S4x384x3600 [0, 2, 1] (val_main_v17 (F := Ideal) (m ((c : Thread nD τ).loc main_arg1)) (m ((c : Thread nD τ).loc main_arg3))) transposes_S4x3600x384_S4x384x3600_0_2_1
    ∧ V m c main_v25 = shapeCast S4x5x720x1 (val_main_v19 (F := Ideal) (m ((c : Thread nD τ).loc main_arg0)) (m ((c : Thread nD τ).loc main_arg2))) shapeCasts_S4x3600_S4x5x720x1
    ∧ V m c main_v26 = shapeCast S4x1x3600 (val_main_v21 (F := Ideal) (m ((c : Thread nD τ).loc main_arg1)) (m ((c : Thread nD τ).loc main_arg3))) shapeCasts_S4x3600_S4x1x3600
    ∧ V m c main_v27 = shapeCast S4x5x720x1 (extui 32 (val_main_v8 (F := Ideal) (m ((c : Thread nD τ).loc main_arg2))) natLt_1_32) shapeCasts_S4x3600_S4x5x720x1
    ∧ V m c main_v28 = shapeCast S4x1x3600 (extui 32 (val_main_v11 (F := Ideal) (m ((c : Thread nD τ).loc main_arg3))) natLt_1_32) shapeCasts_S4x3600_S4x1x3600 := by
  unfold V V0
  simp only [hostOps0, hostOps0_1, hostOps0_2, hostOps0_3, hostOps0_4, hostOps0_5, hostOps0_6, hostOps0_7, List.flatten_cons, List.flatten_nil, List.append_nil, List.cons_append, List.nil_append]
  refine ⟨?_, ?_, ?_, ?_, ?_, ?_⟩ <;> after_reads_simp <;>
    (try simp -implicitDefEqProofs only [StableHlo.TRef.toBuf, StableHlo.TRef.ofBuf, cast_eq]) <;> rfl

end Cert.KernelIdeal.Dist
-- ==== Proof.DistBody.lean ====
/-
  The distance kernel's body, run once. A point of its grid `(b, i)` takes a block of 720 rows of one image's features
  against all 3600 columns of the other's: it leaves each row's first nearest column and the key there, and carries
  each column's smallest key so far, with the row it stands in, in two scratch arrays. The three cases are the first
  block of an image (the scratch is set), a middle one (the scratch is improved), the last (it is improved and copied out).
-/
module

public import proofs.«01_k».proof.Proof.Gen.KernelIdeal.Points
public import proofs.«01_k».proof.Proof.Gen.KernelIdeal.Skeleton
public import proofs.«01_k».proof.Proof.Gen.KernelIdeal.Launch
public import Idealize.ShloMosaic.Lib.Claim
public import Idealize.ShloMosaic.Lib.Tactic
public import Idealize.ShloMosaic.Lib.VecWindow

@[expose] public section

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid's second coordinate: which block of 720 rows the point takes. -/
abbrev blkNo (i : grid0.Coords) : BitVec 32 := BitVec.ofNat 32 (i 1).val

section Reads

variable {sp : Space} {s : Shape} {e : EltTy}

/-- A whole staging buffer held at `X`, loaded whole, reads `X`. -/
theorem load_whole {m : Memref sig .tc sp s e} (h : m.IsWhole) (X : s.Idx → Elt F e) {off : Fin s.rank → ℕ}
    (inb : ∀ a, off a + s.size a ≤ s.size a) :
    m.view.readAt (Elt F) (Rect.unit off (no_index s.size) inb).toLoadRect (h.unread X) = X := by
  rw [View.readAt_full, h.read_unread]

/-- A buffer stored whole holds what was stored. -/
theorem read_stored (v : View sig .tc sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f ((⟨Rect.unit off (no_index s.size) inb, w⟩ : View.Piece (Elt F) s e) :: L)) = w :=
  View.read_writes_full v f inb w L

/-- A buffer stored whole and loaded whole reads what was stored. -/
theorem load_stored (v : View sig .tc sp s e) (f : v.ty.Contents (Elt F)) {off off' : Fin s.rank → ℕ}
    (inb : ∀ a, off a + s.size a ≤ s.size a) (inb' : ∀ a, off' a + s.size a ≤ s.size a) (w : s.Idx → Elt F e)
    (L : List (View.Piece (Elt F) s e)) :
    v.readAt (Elt F) (Rect.unit off (no_index s.size) inb).toLoadRect
      (v.writes (Elt F) f ((⟨Rect.unit off' (no_index s.size) inb', w⟩ : View.Piece (Elt F) s e) :: L)) = w :=
  View.readAt_writes_full v f inb inb' w L

/-- The same, stated over the stores alone. -/
theorem load_pieces (v : View sig .tc sp s e) {off off' : Fin s.rank → ℕ}
    (inb : ∀ a, off a + s.size a ≤ s.size a) (inb' : ∀ a, off' a + s.size a ≤ s.size a) (w : s.Idx → Elt F e)
    (L : List (View.Piece (Elt F) s e)) :
    v.readCov ((⟨Rect.unit off' (no_index s.size) inb', w⟩ : View.Piece (Elt F) s e) :: L)
      (Rect.unit off (no_index s.size) inb).toLoadRect = w :=
  View.readCov_full v inb inb' w L

end Reads

section Triple

variable (c : Dev nD) (i : grid0.Coords)
  (a2 : Memref sig .tc .vmem S1x720x384 .f32) (h2 : a2.IsWhole) (a3 : Memref sig .tc .vmem S1x384x3600 .f32) (h3 : a3.IsWhole)
  (a4 : Memref sig .tc .vmem S1x1x720x1 .f32) (h4 : a4.IsWhole) (a5 : Memref sig .tc .vmem S1x1x3600 .f32) (h5 : a5.IsWhole)
  (a6 : Memref sig .tc .vmem S1x1x720x1 .i32) (h6 : a6.IsWhole) (a7 : Memref sig .tc .vmem S1x1x3600 .i32) (h7 : a7.IsWhole)
  (a8 : Memref sig .tc .vmem S1x1x720x1 .i32) (h8 : a8.IsWhole) (a9 : Memref sig .tc .vmem S1x1x3600 .i32) (h9 : a9.IsWhole)
  (a10 : Memref sig .tc .vmem S1x1x720x1 .f32) (h10 : a10.IsWhole) (a11 : Memref sig .tc .vmem S1x1x3600 .f32) (h11 : a11.IsWhole)
  (a12 : Memref sig .tc .vmem S1x3600 .f32) (h12 : a12.IsWhole) (a13 : Memref sig .tc .vmem S1x3600 .i32) (h13 : a13.IsWhole)
  (x0 : Vec F S1x720x384 .f32) (x1 : Vec F S1x384x3600 .f32) (x2 : Vec F S1x1x720x1 .f32) (x3 : Vec F S1x1x3600 .f32)
  (x4 : Vec F S1x1x720x1 .i32) (x5 : Vec F S1x1x3600 .i32)

/-- The six operands' staging buffers at their blocks. -/
abbrev insAt : sProp 𝕄 :=
  iprop(owns (c : Thread nD τ) a2 fullShare x0 ∗ owns (c : Thread nD τ) a3 fullShare x1 ∗ owns (c : Thread nD τ) a4 fullShare x2
    ∗ owns (c : Thread nD τ) a5 fullShare x3 ∗ owns (c : Thread nD τ) a6 fullShare x4 ∗ owns (c : Thread nD τ) a7 fullShare x5)

set_option maxHeartbeats 1000000 in
/-- The first block of an image: the rows' answers are stored and the scratch is set from this block alone; the columns' outputs are not touched. -/
theorem run_first (hc0 : (Scalar.cmpi .ne (Scalar.extui (Scalar.cmpi .eq (blkNo i) 0#32) : BitVec 32) 0#32 = 1#1))
    (hc1 : ¬(Scalar.cmpi .ne (Scalar.extui (Scalar.cmpi .sgt (blkNo i) 0#32) : BitVec 32) 0#32 = 1#1))
    (hc2 : ¬(k0_cond3 i = 1#1))  (y9 : Vec F S1x1x3600 .i32) (y11 : Vec F S1x1x3600 .f32) (E : Set ℕ) (K : PUnit → sProp 𝕄) :
    iprop(insAt c a2 a3 a4 a5 a6 a7 x0 x1 x2 x3 x4 x5
      ∗ (∃ d, owns (c : Thread nD τ) a8 fullShare d) ∗ owns (c : Thread nD τ) a9 fullShare y9
      ∗ (∃ d, owns (c : Thread nD τ) a10 fullShare d) ∗ owns (c : Thread nD τ) a11 fullShare y11
      ∗ (∃ d, owns (c : Thread nD τ) a12 fullShare d) ∗ (∃ d, owns (c : Thread nD τ) a13 fullShare d)
      ∗ (iprop(insAt c a2 a3 a4 a5 a6 a7 x0 x1 x2 x3 x4 x5
          ∗ owns (c : Thread nD τ) a8 fullShare (k0_pay4 (k0_pay1 x0 x1 x2 x3 x4 x5) (k0_pay2 x0 x1 x2 x3 x4 x5))
          ∗ owns (c : Thread nD τ) a9 fullShare y9
          ∗ owns (c : Thread nD τ) a10 fullShare (k0_pay5 (k0_pay2 x0 x1 x2 x3 x4 x5))
          ∗ owns (c : Thread nD τ) a11 fullShare y11
          ∗ owns (c : Thread nD τ) a12 fullShare (k0_pay8 (k0_pay1 x0 x1 x2 x3 x4 x5))
          ∗ owns (c : Thread nD τ) a13 fullShare (k0_pay9 (blkNo i) (k0_pay1 x0 x1 x2 x3 x4 x5))) -∗ K ⟨⟩))
      ⊢ wp frame (wpE (defs₀ (F := F)) Variants.none c none) E
          (cc0__dist_argmin_kernel i a2 h2 a3 h3 a4 h4 a5 h5 a6 h6 a7 h7 a8 h8 a9 h9 a10 h10 a11 h11 a12 h12 a13 h13) K := by
  simp only [cc0__dist_argmin_kernel_eq_skeleton]; unfold cc0__dist_argmin_kernel_skel
  simp only [k0_part1_eq_skeleton, k0_part2_eq_skeleton]
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨%d6, %f6, -, H6⟩, ⟨%f7, %hf7, H7⟩, ⟨%d8, %f8, -, H8⟩, ⟨%f9, %hf9, H9⟩, ⟨%e0, %fs0, -, HS0⟩, ⟨%e1, %fs1, -, HS1⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5
  sl_exec (disch := first | sl_exact hc0 | sl_exact hc1 | sl_exact hc2)
  sl_step
  iapply Hk
  isplitl [H0 H1 H2 H3 H4 H5]
  · isplitl [H0]; · iexists _; isplitr; swap; (· iexact H0); ipureintro; exact h2.read_unread _
    isplitl [H1]; · iexists _; isplitr; swap; (· iexact H1); ipureintro; exact h3.read_unread _
    isplitl [H2]; · iexists _; isplitr; swap; (· iexact H2); ipureintro; exact h4.read_unread _
    isplitl [H3]; · iexists _; isplitr; swap; (· iexact H3); ipureintro; exact h5.read_unread _
    isplitl [H4]; · iexists _; isplitr; swap; (· iexact H4); ipureintro; exact h6.read_unread _
    iexists _; isplitr; swap; (· iexact H5); ipureintro; exact h7.read_unread _
  isplitl [H6]; · iexists _; isplitr; swap; (· iexact H6); ipureintro; sl_unfold_words; simp only [load_whole, read_stored, load_stored, load_pieces]
  isplitl [H7]; · iexists _; isplitr; swap; (· iexact H7); ipureintro; assumption
  isplitl [H8]; · iexists _; isplitr; swap; (· iexact H8); ipureintro; sl_unfold_words; simp only [load_whole, read_stored, load_stored, load_pieces]
  isplitl [H9]; · iexists _; isplitr; swap; (· iexact H9); ipureintro; assumption
  isplitl [HS0]; · iexists _; isplitr; swap; (· iexact HS0); ipureintro; sl_unfold_words; simp only [load_whole, read_stored, load_stored, load_pieces]
  iexists _; isplitr; swap; (· iexact HS1); ipureintro; sl_unfold_words; simp only [load_whole, read_stored, load_stored, load_pieces]

set_option maxHeartbeats 1000000 in
/-- A middle block: the rows' answers are stored and the scratch improved; the columns' outputs are not touched. -/
theorem run_mid (hc0 : ¬(Scalar.cmpi .ne (Scalar.extui (Scalar.cmpi .eq (blkNo i) 0#32) : BitVec 32) 0#32 = 1#1))
    (hc1 : (Scalar.cmpi .ne (Scalar.extui (Scalar.cmpi .sgt (blkNo i) 0#32) : BitVec 32) 0#32 = 1#1))
    (hc2 : ¬(k0_cond3 i = 1#1)) (s0 : Vec F S1x3600 .f32) (s1 : Vec F S1x3600 .i32) (y9 : Vec F S1x1x3600 .i32) (y11 : Vec F S1x1x3600 .f32) (E : Set ℕ) (K : PUnit → sProp 𝕄) :
    iprop(insAt c a2 a3 a4 a5 a6 a7 x0 x1 x2 x3 x4 x5
      ∗ (∃ d, owns (c : Thread nD τ) a8 fullShare d) ∗ owns (c : Thread nD τ) a9 fullShare y9
      ∗ (∃ d, owns (c : Thread nD τ) a10 fullShare d) ∗ owns (c : Thread nD τ) a11 fullShare y11
      ∗ owns (c : Thread nD τ) a12 fullShare s0 ∗ owns (c : Thread nD τ) a13 fullShare s1
      ∗ (iprop(insAt c a2 a3 a4 a5 a6 a7 x0 x1 x2 x3 x4 x5
          ∗ owns (c : Thread nD τ) a8 fullShare (k0_pay4 (k0_pay1 x0 x1 x2 x3 x4 x5) (k0_pay2 x0 x1 x2 x3 x4 x5))
          ∗ owns (c : Thread nD τ) a9 fullShare y9
          ∗ owns (c : Thread nD τ) a10 fullShare (k0_pay5 (k0_pay2 x0 x1 x2 x3 x4 x5))
          ∗ owns (c : Thread nD τ) a11 fullShare y11
          ∗ owns (c : Thread nD τ) a12 fullShare (k0_pay11 (k0_pay1 x0 x1 x2 x3 x4 x5) s0)
          ∗ owns (c : Thread nD τ) a13 fullShare (k0_pay12 (blkNo i) (k0_pay1 x0 x1 x2 x3 x4 x5) s0 s1)) -∗ K ⟨⟩))
      ⊢ wp frame (wpE (defs₀ (F := F)) Variants.none c none) E
          (cc0__dist_argmin_kernel i a2 h2 a3 h3 a4 h4 a5 h5 a6 h6 a7 h7 a8 h8 a9 h9 a10 h10 a11 h11 a12 h12 a13 h13) K := by
  simp only [cc0__dist_argmin_kernel_eq_skeleton]; unfold cc0__dist_argmin_kernel_skel
  simp only [k0_part1_eq_skeleton, k0_part2_eq_skeleton]
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨%d6, %f6, -, H6⟩, ⟨%f7, %hf7, H7⟩, ⟨%d8, %f8, -, H8⟩, ⟨%f9, %hf9, H9⟩, ⟨%fs0, %hfs0, HS0⟩, ⟨%fs1, %hfs1, HS1⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5
  obtain rfl := h12.eq_unread hfs0; obtain rfl := h13.eq_unread hfs1
  sl_exec (disch := first | sl_exact hc0 | sl_exact hc1 | sl_exact hc2)
  sl_step
  iapply Hk
  isplitl [H0 H1 H2 H3 H4 H5]
  · isplitl [H0]; · iexists _; isplitr; swap; (· iexact H0); ipureintro; exact h2.read_unread _
    isplitl [H1]; · iexists _; isplitr; swap; (· iexact H1); ipureintro; exact h3.read_unread _
    isplitl [H2]; · iexists _; isplitr; swap; (· iexact H2); ipureintro; exact h4.read_unread _
    isplitl [H3]; · iexists _; isplitr; swap; (· iexact H3); ipureintro; exact h5.read_unread _
    isplitl [H4]; · iexists _; isplitr; swap; (· iexact H4); ipureintro; exact h6.read_unread _
    iexists _; isplitr; swap; (· iexact H5); ipureintro; exact h7.read_unread _
  isplitl [H6]; · iexists _; isplitr; swap; (· iexact H6); ipureintro; sl_unfold_words; simp only [load_whole, read_stored, load_stored, load_pieces]
  isplitl [H7]; · iexists _; isplitr; swap; (· iexact H7); ipureintro; assumption
  isplitl [H8]; · iexists _; isplitr; swap; (· iexact H8); ipureintro; sl_unfold_words; simp only [load_whole, read_stored, load_stored, load_pieces]
  isplitl [H9]; · iexists _; isplitr; swap; (· iexact H9); ipureintro; assumption
  isplitl [HS0]; · iexists _; isplitr; swap; (· iexact HS0); ipureintro; sl_unfold_words; simp only [load_whole, read_stored, load_stored, load_pieces]
  iexists _; isplitr; swap; (· iexact HS1); ipureintro; sl_unfold_words; simp only [load_whole, read_stored, load_stored, load_pieces]

set_option maxHeartbeats 1000000 in
/-- The last block of an image: the rows' answers are stored, the scratch improved, and the columns' outputs copied from it. -/
theorem run_last (hc0 : ¬(Scalar.cmpi .ne (Scalar.extui (Scalar.cmpi .eq (blkNo i) 0#32) : BitVec 32) 0#32 = 1#1))
    (hc1 : (Scalar.cmpi .ne (Scalar.extui (Scalar.cmpi .sgt (blkNo i) 0#32) : BitVec 32) 0#32 = 1#1))
    (hc2 : (k0_cond3 i = 1#1)) (s0 : Vec F S1x3600 .f32) (s1 : Vec F S1x3600 .i32) (E : Set ℕ) (K : PUnit → sProp 𝕄) :
    iprop(insAt c a2 a3 a4 a5 a6 a7 x0 x1 x2 x3 x4 x5
      ∗ (∃ d, owns (c : Thread nD τ) a8 fullShare d) ∗ (∃ d, owns (c : Thread nD τ) a9 fullShare d)
      ∗ (∃ d, owns (c : Thread nD τ) a10 fullShare d) ∗ (∃ d, owns (c : Thread nD τ) a11 fullShare d)
      ∗ owns (c : Thread nD τ) a12 fullShare s0 ∗ owns (c : Thread nD τ) a13 fullShare s1
      ∗ (iprop(insAt c a2 a3 a4 a5 a6 a7 x0 x1 x2 x3 x4 x5
          ∗ owns (c : Thread nD τ) a8 fullShare (k0_pay4 (k0_pay1 x0 x1 x2 x3 x4 x5) (k0_pay2 x0 x1 x2 x3 x4 x5))
          ∗ owns (c : Thread nD τ) a9 fullShare (k0_pay13 (F := F) (k0_pay12 (blkNo i) (k0_pay1 x0 x1 x2 x3 x4 x5) s0 s1))
          ∗ owns (c : Thread nD τ) a10 fullShare (k0_pay5 (k0_pay2 x0 x1 x2 x3 x4 x5))
          ∗ owns (c : Thread nD τ) a11 fullShare (k0_pay14 (k0_pay11 (k0_pay1 x0 x1 x2 x3 x4 x5) s0))
          ∗ owns (c : Thread nD τ) a12 fullShare (k0_pay11 (k0_pay1 x0 x1 x2 x3 x4 x5) s0)
          ∗ owns (c : Thread nD τ) a13 fullShare (k0_pay12 (blkNo i) (k0_pay1 x0 x1 x2 x3 x4 x5) s0 s1)) -∗ K ⟨⟩))
      ⊢ wp frame (wpE (defs₀ (F := F)) Variants.none c none) E
          (cc0__dist_argmin_kernel i a2 h2 a3 h3 a4 h4 a5 h5 a6 h6 a7 h7 a8 h8 a9 h9 a10 h10 a11 h11 a12 h12 a13 h13) K := by
  simp only [cc0__dist_argmin_kernel_eq_skeleton]; unfold cc0__dist_argmin_kernel_skel
  simp only [k0_part1_eq_skeleton, k0_part2_eq_skeleton]
  unfold insAt owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩,
    ⟨%d6, %f6, -, H6⟩, ⟨%d7, %f7, -, H7⟩, ⟨%d8, %f8, -, H8⟩, ⟨%d9, %f9, -, H9⟩, ⟨%fs0, %hfs0, HS0⟩, ⟨%fs1, %hfs1, HS1⟩, Hk⟩
  obtain rfl := h2.eq_unread hf0; obtain rfl := h3.eq_unread hf1; obtain rfl := h4.eq_unread hf2; obtain rfl := h5.eq_unread hf3
  obtain rfl := h6.eq_unread hf4; obtain rfl := h7.eq_unread hf5
  obtain rfl := h12.eq_unread hfs0; obtain rfl := h13.eq_unread hfs1
  sl_exec (disch := first | sl_exact hc0 | sl_exact hc1 | sl_exact hc2)
  sl_step
  iapply Hk
  isplitl [H0 H1 H2 H3 H4 H5]
  · isplitl [H0]; · iexists _; isplitr; swap; (· iexact H0); ipureintro; exact h2.read_unread _
    isplitl [H1]; · iexists _; isplitr; swap; (· iexact H1); ipureintro; exact h3.read_unread _
    isplitl [H2]; · iexists _; isplitr; swap; (· iexact H2); ipureintro; exact h4.read_unread _
    isplitl [H3]; · iexists _; isplitr; swap; (· iexact H3); ipureintro; exact h5.read_unread _
    isplitl [H4]; · iexists _; isplitr; swap; (· iexact H4); ipureintro; exact h6.read_unread _
    iexists _; isplitr; swap; (· iexact H5); ipureintro; exact h7.read_unread _
  isplitl [H6]; · iexists _; isplitr; swap; (· iexact H6); ipureintro; sl_unfold_words; simp only [load_whole, read_stored, load_stored, load_pieces]
  isplitl [H7]; · iexists _; isplitr; swap; (· iexact H7); ipureintro; sl_unfold_words; simp only [load_whole, read_stored, load_stored, load_pieces]
  isplitl [H8]; · iexists _; isplitr; swap; (· iexact H8); ipureintro; sl_unfold_words; simp only [load_whole, read_stored, load_stored, load_pieces]
  isplitl [H9]; · iexists _; isplitr; swap; (· iexact H9); ipureintro; sl_unfold_words; simp only [load_whole, read_stored, load_stored, load_pieces]
  isplitl [HS0]; · iexists _; isplitr; swap; (· iexact HS0); ipureintro; sl_unfold_words; simp only [load_whole, read_stored, load_stored, load_pieces]
  iexists _; isplitr; swap; (· iexact HS1); ipureintro; sl_unfold_words; simp only [load_whole, read_stored, load_stored, load_pieces]

end Triple

end Cert.KernelIdeal.Dist

end
-- ==== Proof.DistRegion.lean ====
/-
  The distance kernel's region, point by point: what each point finds in its input blocks (`blk`), the key block it
  computes there (`keyAt`), what the two scratch arrays hold after it (`scrAt`: set at the first block of an image,
  improved at the others), the region's proof data (`dat0`) and the body's obligation at a point (`body_obligation0`).
  Everything is stated for any contents `V` of the arrays at the region's entry and any values `F`.
-/
module

public import proofs.«01_k».proof.Proof.DistBody

@[expose] public section

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Which case a point is in -/

/-- The first block of an image: the points `0, 5, 10, 15`. -/
theorem first_iff : ∀ t : Fin cfg0.N, (Scalar.cmpi .ne (Scalar.extui (Scalar.cmpi .eq (blkNo (grid0.coords t)) 0#32) : BitVec 32) 0#32 = 1#1) ↔ t.val % 5 = 0 :=
  (by decide +kernel : ∀ t : Fin grid0.N, (Scalar.cmpi .ne (Scalar.extui (Scalar.cmpi .eq (blkNo (grid0.coords t)) 0#32) : BitVec 32) 0#32 = 1#1) ↔ t.val % 5 = 0)

/-- A later block: every other point. -/
theorem later_iff : ∀ t : Fin cfg0.N, (Scalar.cmpi .ne (Scalar.extui (Scalar.cmpi .sgt (blkNo (grid0.coords t)) 0#32) : BitVec 32) 0#32 = 1#1) ↔ ¬ t.val % 5 = 0 :=
  (by decide +kernel : ∀ t : Fin grid0.N, (Scalar.cmpi .ne (Scalar.extui (Scalar.cmpi .sgt (blkNo (grid0.coords t)) 0#32) : BitVec 32) 0#32 = 1#1) ↔ ¬ t.val % 5 = 0)

/-- The last block of an image: the points `4, 9, 14, 19`. -/
theorem last_iff : ∀ t : Fin cfg0.N, k0_cond3 (grid0.coords t) = 1#1 ↔ t.val % 5 = 4 :=
  (by decide +kernel : ∀ t : Fin grid0.N, k0_cond3 (grid0.coords t) = 1#1 ↔ t.val % 5 = 4)

/-- The columns' outputs are stored at an image's last block only, -/
theorem idle7 : ∀ t : Fin cfg0.N, cfg0.idle 7 (grid0.coords t) = !decide (t.val % 5 = 4) :=
  (by decide +kernel : ∀ t : Fin grid0.N, cfg0.idle 7 (grid0.coords t) = !decide (t.val % 5 = 4))
theorem idle9 : ∀ t : Fin cfg0.N, cfg0.idle 9 (grid0.coords t) = !decide (t.val % 5 = 4) :=
  (by decide +kernel : ∀ t : Fin grid0.N, cfg0.idle 9 (grid0.coords t) = !decide (t.val % 5 = 4))
/-- and written back there only. -/
theorem noFlush7 (t : Fin cfg0.N) (h : ¬ t.val % 5 = 4) : (cfg0.win 7).flush t = false :=
  Bool.eq_false_iff.mpr fun e => h ((flush0_7 t).mp e)
theorem noFlush9 (t : Fin cfg0.N) (h : ¬ t.val % 5 = 4) : (cfg0.win 9).flush t = false :=
  Bool.eq_false_iff.mpr fun e => h ((flush0_9 t).mp e)

/-! ## What a point finds and computes -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The key block of point `t`: 720 rows against 3600 columns. -/
def keyAt (c : Dev nD) (t : Fin cfg0.N) : FVec F S720x3600 .f32 :=
  k0_pay1 (blk V c 0 t) (blk V c 1 t) (blk V c 2 t) (blk V c 3 t) (blk V c 4 t) (blk V c 5 t)

/-- Its rows' minima. -/
def rowMinAt (c : Dev nD) (t : Fin cfg0.N) : FVec F S720 .f32 :=
  k0_pay2 (blk V c 0 t) (blk V c 1 t) (blk V c 2 t) (blk V c 3 t) (blk V c 4 t) (blk V c 5 t)

/-- The scratch after point `n`: each column's smallest key so far in this image, and the row it first stands in. -/
def scrAt (c : Dev nD) : (n : ℕ) → n < cfg0.N → Vec F S1x3600 .f32 × Vec F S1x3600 .i32
  | 0, h => (k0_pay8 (keyAt V c ⟨0, h⟩), k0_pay9 (blkNo (grid0.coords ⟨0, h⟩)) (keyAt V c ⟨0, h⟩))
  | n + 1, h =>
    if (n + 1) % 5 = 0 then (k0_pay8 (keyAt V c ⟨n + 1, h⟩), k0_pay9 (blkNo (grid0.coords ⟨n + 1, h⟩)) (keyAt V c ⟨n + 1, h⟩))
    else (k0_pay11 (keyAt V c ⟨n + 1, h⟩) (scrAt c n (Nat.lt_of_succ_lt h)).1,
      k0_pay12 (blkNo (grid0.coords ⟨n + 1, h⟩)) (keyAt V c ⟨n + 1, h⟩) (scrAt c n (Nat.lt_of_succ_lt h)).1 (scrAt c n (Nat.lt_of_succ_lt h)).2)

/-- At the first block of an image the scratch is this block's alone. -/
theorem scrAt_first (c : Dev nD) (t : Fin cfg0.N) (h : t.val % 5 = 0) :
    scrAt V c t.val t.isLt = (k0_pay8 (keyAt V c t), k0_pay9 (blkNo (grid0.coords t)) (keyAt V c t)) := by
  obtain ⟨n, hn⟩ := t
  cases n with
  | zero => rfl
  | succ n => exact if_pos h

/-- At a later block it is the one before, improved by this block. -/
theorem scrAt_later (c : Dev nD) (t : Fin cfg0.N) (h : ¬ t.val % 5 = 0) :
    scrAt V c t.val t.isLt = (k0_pay11 (keyAt V c t) (scrAt V c (t.val - 1) (by omega)).1,
      k0_pay12 (blkNo (grid0.coords t)) (keyAt V c t) (scrAt V c (t.val - 1) (by omega)).1 (scrAt V c (t.val - 1) (by omega)).2) := by
  obtain ⟨n, hn⟩ := t
  cases n with
  | zero => exact absurd (Nat.zero_mod _) h
  | succ n => exact if_neg h

/-! ## The invariant between points -/

/-- The scratch at the contents `s`, the program's other scoped buffers at anything, the generator register. -/
def carried (c : Dev nD) (s : Vec F S1x3600 .f32 × Vec F S1x3600 .i32) : sProp 𝕄 :=
  iprop(owns (c : Thread nD τ) (Memref.whole cc0_scratch0) fullShare s.1 ∗ owns (c : Thread nD τ) (Memref.whole cc0_scratch1) fullShare s.2
    ∗ Pipeline.scopedRestBut (Ix := Unit) (Name := ℕ) (U := UR sig nD τ) (Lvl := ℕ) (Val := Elt F) spec0 c [cc0_scratch0, cc0_scratch1] ∗ (∃ r, prngReg c r))

/-- The scratch at anything beside the rest is what the launch hands the region. -/
theorem entry_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d))
        ∗ Pipeline.scopedRestBut (Ix := Unit) (Name := ℕ) (U := UR sig nD τ) (Lvl := ℕ) (Val := Elt F) spec0 c [cc0_scratch0, cc0_scratch1] ∗ (∃ r, prngReg c r)) := by
  unfold Pipeline.ΦA
  rw [Pipeline.scopedRest_split_of_list spec0 c [cc0_scratch0, cc0_scratch1] (by decide) (by decide)]
  simp only [owns_whole]
  exact equiv_iff.mp ⟨BI.sep_assoc, BI.sep_assoc'⟩

/-- Before position `n`: at the first point what the launch hands over, later the scratch as the point before left it. -/
def inv (c : Dev nD) : (n : ℕ) → n ≤ cfg0.N → sProp 𝕄
  | 0, _ => Pipeline.ΦA spec0 c
  | n + 1, hn => carried c (scrAt V c n hn)

theorem inv_zero (c : Dev nD) (n : ℕ) (h : n ≤ cfg0.N) (hz : n = 0) : inv V c n h = Pipeline.ΦA spec0 c := by
  subst hz; rfl

theorem inv_succ (c : Dev nD) (n : ℕ) (hn : n < cfg0.N) : inv V c (n + 1) hn = carried c (scrAt V c n hn) := rfl

theorem inv_pos (c : Dev nD) (n : ℕ) (h : n ≤ cfg0.N) (hz : n ≠ 0) : inv V c n h = carried c (scrAt V c (n - 1) (by omega)) := by
  cases n with
  | zero => exact absurd rfl hz
  | succ n => rfl

/-- The scratch at named contents is the scratch at anything. -/
theorem carried_forget (c : Dev nD) (s : Vec F S1x3600 .f32 × Vec F S1x3600 .i32) : carried c s ⊢ Pipeline.ΦA spec0 c := by
  rw [entry_eq]; unfold carried
  iintro ⟨H0, H1, Hr⟩
  isplitl [H0 H1]
  · isplitl [H0]
    · iexists _; iexact H0
    iexists _; iexact H1
  iexact Hr

/-- Whatever the position, the invariant holds the scratch at some contents. -/
theorem inv_forget (c : Dev nD) (n : ℕ) (h : n ≤ cfg0.N) : inv V c n h ⊢ Pipeline.ΦA spec0 c := by
  by_cases hz : n = 0
  · rw [inv_zero V c n h hz]
  · rw [inv_pos V c n h hz]; exact carried_forget c _

/-! ## The region's proof data -/

/-- The arrays as the region finds them; after point `t` each input's buffer holds its block, the rows' outputs this
    block's answers, the columns' outputs (read only at an image's last block) the scratch; nothing is owed. -/
def dat0 (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => k0_pay4 (keyAt V c t) (rowMinAt V c t)
    | ⟨7, _⟩ => k0_pay13 (F := F) (scrAt V c t.val t.isLt).2
    | ⟨8, _⟩ => k0_pay5 (rowMinAt V c t)
    | ⟨9, _⟩ => k0_pay14 (scrAt V c t.val t.isLt).1
  Φ t := inv V c t.val (Nat.le_of_lt_succ t.isLt)
  q _ := fullShare
  owed _ := 0

theorem arrays0 (c : Dev nD) (w : Fin cfg0.W) : (dat0 V c).A w = V c (Pipeline.arrRef spec0 w) := by dsimp only [dat0]

theorem inv_at (c : Dev nD) (t : Fin cfg0.N) : (dat0 V c).Φ t.castSucc = inv V c t.val (Nat.le_of_lt t.isLt) := by
  dsimp only [dat0]; exact Pipeline.Dat.Φ_castSucc (inv V c) t

theorem after6 (c : Dev nD) (t : Fin cfg0.N) : (dat0 V c).after 6 t = k0_pay4 (keyAt V c t) (rowMinAt V c t) := by dsimp only [dat0]
theorem after7 (c : Dev nD) (t : Fin cfg0.N) : (dat0 V c).after 7 t = k0_pay13 (F := F) (scrAt V c t.val t.isLt).2 := by dsimp only [dat0]
theorem after8 (c : Dev nD) (t : Fin cfg0.N) : (dat0 V c).after 8 t = k0_pay5 (rowMinAt V c t) := by dsimp only [dat0]
theorem after9 (c : Dev nD) (t : Fin cfg0.N) : (dat0 V c).after 9 t = k0_pay14 (scrAt V c t.val t.isLt).1 := by dsimp only [dat0]

/-- Each input's staging buffer holds its block at every point, fetched there or not. -/
theorem before0 (c : Dev nD) (t : Fin cfg0.N) (d) : (dat0 V c).before 0 t d = blk V c 0 t :=
  ((dat0 V c).before_in_eq_fetched 0 rfl (fun _ => rfl) (fun _ _ _ => rfl) (fun _ => rfl) t d).trans rfl
theorem before1 (c : Dev nD) (t : Fin cfg0.N) (d) : (dat0 V c).before 1 t d = blk V c 1 t :=
  ((dat0 V c).before_in_eq_fetched 1 rfl (fun _ => rfl) (fun _ _ _ => rfl) (fun _ => rfl) t d).trans rfl
theorem before2 (c : Dev nD) (t : Fin cfg0.N) (d) : (dat0 V c).before 2 t d = blk V c 2 t :=
  ((dat0 V c).before_in_eq_fetched 2 rfl (fun _ => rfl) (fun _ _ _ => rfl) (fun _ => rfl) t d).trans rfl
theorem before3 (c : Dev nD) (t : Fin cfg0.N) (d) : (dat0 V c).before 3 t d = blk V c 3 t :=
  ((dat0 V c).before_in_eq_fetched 3 rfl (fun _ => rfl) (fun _ _ _ => rfl) (fun _ => rfl) t d).trans rfl
theorem before4 (c : Dev nD) (t : Fin cfg0.N) (d) : (dat0 V c).before 4 t d = blk V c 4 t :=
  ((dat0 V c).before_in_eq_fetched 4 rfl (fun _ => rfl) (fun _ _ _ => rfl) (fun _ => rfl) t d).trans rfl
theorem before5 (c : Dev nD) (t : Fin cfg0.N) (d) : (dat0 V c).before 5 t d = blk V c 5 t :=
  ((dat0 V c).before_in_eq_fetched 5 rfl (fun _ => rfl) (fun _ _ _ => rfl) (fun _ => rfl) t d).trans rfl

/-! ## The body at a point -/

/-- A point's windows: the inputs at their blocks, the rows' outputs and the columns' outputs as given. -/
def windows (c : Dev nD) (t : Fin cfg0.N) (P6 P7 P8 P9 : sProp 𝕄) : sProp 𝕄 :=
  iprop(owns (c : Thread nD τ) (st0_0 t) fullShare (blk V c 0 t) ∗ owns (c : Thread nD τ) (st0_1 t) fullShare (blk V c 1 t)
    ∗ owns (c : Thread nD τ) (st0_2 t) fullShare (blk V c 2 t) ∗ owns (c : Thread nD τ) (st0_3 t) fullShare (blk V c 3 t)
    ∗ owns (c : Thread nD τ) (st0_4 t) fullShare (blk V c 4 t) ∗ owns (c : Thread nD τ) (st0_5 t) fullShare (blk V c 5 t)
    ∗ P6 ∗ P7 ∗ P8 ∗ P9)

/-- What the point leaves in the scratch and the columns' outputs, the rows' outputs being this block's answers. -/
theorem at_point (c : Dev nD) (t : Fin cfg0.N) (d6 d7 d8 d9) :
    iprop(inv V c t.val (Nat.le_of_lt t.isLt) ∗ windows V c t
        (owns (c : Thread nD τ) (st0_6 t) fullShare d6) (owns (c : Thread nD τ) (st0_7 t) fullShare d7)
        (owns (c : Thread nD τ) (st0_8 t) fullShare d8) (owns (c : Thread nD τ) (st0_9 t) fullShare d9))
      ⊢ wp frame (wpE (defs₀ (F := F)) Variants.none c none) Set.univ (bodyAt0 t) (fun _ =>
        iprop(carried c (scrAt V c t.val t.isLt) ∗ windows V c t
          (owns (c : Thread nD τ) (st0_6 t) fullShare (k0_pay4 (keyAt V c t) (rowMinAt V c t)))
          (if t.val % 5 = 4 then owns (c : Thread nD τ) (st0_7 t) fullShare (k0_pay13 (F := F) (scrAt V c t.val t.isLt).2)
            else owns (c : Thread nD τ) (st0_7 t) fullShare d7)
          (owns (c : Thread nD τ) (st0_8 t) fullShare (k0_pay5 (rowMinAt V c t)))
          (if t.val % 5 = 4 then owns (c : Thread nD τ) (st0_9 t) fullShare (k0_pay14 (scrAt V c t.val t.isLt).1)
            else owns (c : Thread nD τ) (st0_9 t) fullShare d9))) := by
  unfold windows bodyAt0
  by_cases h0 : t.val % 5 = 0
  · have h4 : ¬ t.val % 5 = 4 := by omega
    rw [scrAt_first V c t h0, if_neg h4, if_neg h4]
    refine (sep_mono (inv_forget V c _ _) .rfl).trans ?_
    rw [entry_eq]; unfold carried keyAt rowMinAt; dsimp only
    iintro ⟨⟨⟨HS0, HS1⟩, Hr⟩, H0, H1, H2, H3, H4, H5, H6, H7, H8, H9⟩
    iapply run_first c (grid0.coords t) _ _ _ _ _ _ _ _ _ _ _ _ _ _ _ _ _ _ _ _ _ _ _ _ (blk V c 0 t) (blk V c 1 t) (blk V c 2 t) (blk V c 3 t)
      (blk V c 4 t) (blk V c 5 t) ((first_iff t).mpr h0) (fun h => (later_iff t).mp h h0) (fun h => h4 ((last_iff t).mp h)) d7 d9 Set.univ
    unfold insAt
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexact H7
    isplitl [H8]; · iexists _; iexact H8
    isplitl [H9]; · iexact H9
    isplitl [HS0]; · iexact HS0
    isplitl [HS1]; · iexact HS1
    iintro ⟨⟨H0, H1, H2, H3, H4, H5⟩, H6, H7, H8, H9, HS0, HS1⟩
    isplitl [HS0 HS1 Hr]
    · isplitl [HS0]; · iexact HS0
      isplitl [HS1]; · iexact HS1
      iexact Hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [inv_pos V c _ _ (fun h => h0 (by rw [h])), scrAt_later V c t h0]
    generalize scrAt V c (t.val - 1) _ = s
    by_cases h4 : t.val % 5 = 4
    · rw [if_pos h4, if_pos h4]
      unfold carried keyAt rowMinAt; dsimp only
      iintro ⟨⟨HS0, HS1, Hr⟩, H0, H1, H2, H3, H4, H5, H6, H7, H8, H9⟩
      iapply run_last c (grid0.coords t) _ _ _ _ _ _ _ _ _ _ _ _ _ _ _ _ _ _ _ _ _ _ _ _ (blk V c 0 t) (blk V c 1 t) (blk V c 2 t) (blk V c 3 t)
        (blk V c 4 t) (blk V c 5 t) (fun h => h0 ((first_iff t).mp h)) ((later_iff t).mpr h0) ((last_iff t).mpr h4) s.1 s.2 Set.univ
      unfold insAt
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexists _; iexact H7
      isplitl [H8]; · iexists _; iexact H8
      isplitl [H9]; · iexists _; iexact H9
      isplitl [HS0]; · iexact HS0
      isplitl [HS1]; · iexact HS1
      iintro ⟨⟨H0, H1, H2, H3, H4, H5⟩, H6, H7, H8, H9, HS0, HS1⟩
      isplitl [HS0 HS1 Hr]
      · isplitl [HS0]; · iexact HS0
        isplitl [HS1]; · iexact HS1
        iexact Hr
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [if_neg h4, if_neg h4]
      unfold carried keyAt rowMinAt; dsimp only
      iintro ⟨⟨HS0, HS1, Hr⟩, H0, H1, H2, H3, H4, H5, H6, H7, H8, H9⟩
      iapply run_mid c (grid0.coords t) _ _ _ _ _ _ _ _ _ _ _ _ _ _ _ _ _ _ _ _ _ _ _ _ (blk V c 0 t) (blk V c 1 t) (blk V c 2 t) (blk V c 3 t)
        (blk V c 4 t) (blk V c 5 t) (fun h => h0 ((first_iff t).mp h)) ((later_iff t).mpr h0) (fun h => h4 ((last_iff t).mp h)) s.1 s.2 d7 d9 Set.univ
      unfold insAt
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H6]; · iexists _; iexact H6
      isplitl [H7]; · iexact H7
      isplitl [H8]; · iexists _; iexact H8
      isplitl [H9]; · iexact H9
      isplitl [HS0]; · iexact HS0
      isplitl [HS1]; · iexact HS1
      iintro ⟨⟨H0, H1, H2, H3, H4, H5⟩, H6, H7, H8, H9, HS0, HS1⟩
      isplitl [HS0 HS1 Hr]
      · isplitl [HS0]; · iexact HS0
        isplitl [HS1]; · iexact HS1
        iexact Hr
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- What the point leaves in a columns' output, which is idle except at an image's last block. -/
theorem leaves7 (c : Dev nD) (t : Fin cfg0.N) (d) :
    (if t.val % 5 = 4 then owns (c : Thread nD τ) (st0_7 t) fullShare (k0_pay13 (F := F) (scrAt V c t.val t.isLt).2)
      else owns (c : Thread nD τ) (st0_7 t) fullShare ((dat0 V c).before 7 t d) : sProp 𝕄) ⊢ (dat0 V c).leavesExact 7 t := by
  by_cases h4 : t.val % 5 = 4
  · rw [if_pos h4]; unfold Dat.leavesExact; rw [show cfg0.idle 7 (cfg0.grid.coords t) = false from (idle7 t).trans (by simp [h4]), after7]
  · rw [if_neg h4, Dat.leavesExact_idle (dat0 V c) 7 t ((idle7 t).trans (by simp [h4])) (noFlush7 t h4)]
    iintro H; iexists d; iexact H

theorem leaves9 (c : Dev nD) (t : Fin cfg0.N) (d) :
    (if t.val % 5 = 4 then owns (c : Thread nD τ) (st0_9 t) fullShare (k0_pay14 (scrAt V c t.val t.isLt).1)
      else owns (c : Thread nD τ) (st0_9 t) fullShare ((dat0 V c).before 9 t d) : sProp 𝕄) ⊢ (dat0 V c).leavesExact 9 t := by
  by_cases h4 : t.val % 5 = 4
  · rw [if_pos h4]; unfold Dat.leavesExact; rw [show cfg0.idle 9 (cfg0.grid.coords t) = false from (idle9 t).trans (by simp [h4]), after9]
  · rw [if_neg h4, Dat.leavesExact_idle (dat0 V c) 9 t ((idle9 t).trans (by simp [h4])) (noFlush9 t h4)]
    iintro H; iexists d; iexact H

theorem body_row0 (t : Fin cfg0.N) : defs₀ (F := F) .tc cfg0.body (cfg0.bodyArgs t (cfg0.slots t)) = bodyAt0 t := by
  unfold defs₀; rw [Defs.onTc_tc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d))
    ∗ (∃ d, owns (c : Thread nD τ) (st0_2 t) fullShare ((dat0 V c).before 2 t d)) ∗ (∃ d, owns (c : Thread nD τ) (st0_3 t) fullShare ((dat0 V c).before 3 t d))
    ∗ (∃ d, owns (c : Thread nD τ) (st0_4 t) fullShare ((dat0 V c).before 4 t d)) ∗ (∃ d, owns (c : Thread nD τ) (st0_5 t) fullShare ((dat0 V c).before 5 t d))
    ∗ (∃ d, owns (c : Thread nD τ) (st0_6 t) fullShare ((dat0 V c).before 6 t d)) ∗ (∃ d, owns (c : Thread nD τ) (st0_7 t) fullShare ((dat0 V c).before 7 t d))
    ∗ (∃ d, owns (c : Thread nD τ) (st0_8 t) fullShare ((dat0 V c).before 8 t d)) ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t
    ∗ (dat0 V c).leavesExact 8 t ∗ (dat0 V c).leavesExact 9 t)

/-- The body at a point, in the pipeline's terms. -/
theorem body_sound0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0, before1, before2, before3, before4, before5]
  rw [show (dat0 V c).owesAt () t.succ = (dat0 V c).owesAt () t.castSucc from rfl, inv_at V c t,
    show (dat0 V c).Φ t.succ = carried c (scrAt V c t.val t.isLt) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply wp_wand_r
  isplitl [HI H0 H1 H2 H3 H4 H5 H6 H7 H8 H9]
  · iapply at_point V c t ((dat0 V c).before 6 t d6) ((dat0 V c).before 7 t d7) ((dat0 V c).before 8 t d8) ((dat0 V c).before 9 t d9)
    unfold windows
    isplitl [HI]; · iexact HI
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  unfold windows
  iintro %_ ⟨HI, H0, H1, H2, H3, H4, H5, H6, H7, H8, H9⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · rw [show (dat0 V c).leavesExact 6 t = owns (c : Thread nD τ) (st0_6 t) fullShare ((dat0 V c).after 6 t) from rfl, after6]; iexact H6
  isplitl [H7]; · iapply leaves7 V c t d7; iexact H7
  isplitl [H8]
  · rw [show (dat0 V c).leavesExact 8 t = owns (c : Thread nD τ) (st0_8 t) fullShare ((dat0 V c).after 8 t) from rfl, after8]; iexact H8
  iapply leaves9 V c t d9; iexact H9

/-- The library's body obligation, at every point. -/
theorem body_obligation0 (c : Dev nD) : BodyObligation (dat0 (F := F) V c) (defs₀ (F := F)) Variants.none () Set.univ := fun t => by
  rw [bigSep_W0, bigSep_W0, body_row0]
  exact triple_restated (body_sound0 V c t) rfl .rfl fun _ => .rfl

end Cert.KernelIdeal.Dist

end
-- ==== Proof.DistBlocks.lean ====
/-
  The blocks that a grid point reads, at an index: which place of the window's array stands there.
-/
module

public import proofs.«01_k».proof.Proof.DistRegion
public import Idealize.ShloMosaic.Lib.Pointwise
public import Idealize.ShloMosaic.Lib.Pipeline.ValueKit.Geometry

@[expose] public section

noncomputable section

namespace Cert.KernelIdeal.Dist

open Cert.KernelIdeal Cert.KernelIdeal.Gen Idealize.ShloMosaic Idealize.ShloMosaic.TcCoe Idealize.ShloMosaic.Tactic

/-- The grid has twenty points. -/
theorem points_eq : cfg0.N = 20 := by decide +kernel

/-- The image of a point. -/
def image (t : Fin cfg0.N) : Fin 4 := ⟨t.val / 5, by have := t.isLt; have := points_eq; omega⟩

/-- The block of rows of a point, within its image. -/
def part (t : Fin cfg0.N) : Fin 5 := ⟨t.val % 5, by omega⟩

/-- The row of the image that stands in a row of a point's block. -/
def rowOf (t : Fin cfg0.N) (r : Fin 720) : Fin 3600 := ⟨t.val % 5 * 720 + r.val, by have := r.isLt; omega⟩

theorem index_at : ∀ t : Fin cfg0.N,
    (cfg0.win 0).index t = ![t.val / 5, t.val % 5, 0] ∧ (cfg0.win 1).index t = ![t.val / 5, 0, 0]
    ∧ (cfg0.win 2).index t = ![t.val / 5, t.val % 5, 0, 0] ∧ (cfg0.win 3).index t = ![t.val / 5, 0, 0]
    ∧ (cfg0.win 4).index t = ![t.val / 5, t.val % 5, 0, 0] ∧ (cfg0.win 5).index t = ![t.val / 5, 0, 0]
    ∧ (cfg0.win 6).index t = ![t.val / 5, t.val % 5, 0, 0] ∧ (cfg0.win 7).index t = ![t.val / 5, 0, 0]
    ∧ (cfg0.win 8).index t = ![t.val / 5, t.val % 5, 0, 0] ∧ (cfg0.win 9).index t = ![t.val / 5, 0, 0] := by
  decide +kernel

variable {F : FTy → Type} [FloatOps F]
variable (V : (c : Dev nD) → (b : Ref sig .tc) → Buf (Elt F) ((c : Thread nD τ).loc b)) (c : Dev nD) (t : Fin cfg0.N)

theorem blk0_apply (r : Fin 720) (x : Fin 384) :
    blk V c 0 t (ix3 0 r x) = V c main_v14 (ix3 (image t) (rowOf t r) x) := by
  blk_ext [blk, index_at t, image, rowOf]

theorem blk1_apply (x : Fin 384) (j : Fin 3600) :
    blk V c 1 t (ix3 0 x j) = V c main_v24 (ix3 (image t) x j) := by
  blk_ext [blk, index_at t, image]

theorem blk2_apply (r : Fin 720) :
    blk V c 2 t (ix4 0 0 r 0) = V c main_v25 (ix4 (image t) (part t) r 0) := by
  blk_ext [blk, index_at t, image, part]

theorem blk3_apply (j : Fin 3600) : blk V c 3 t (ix3 0 0 j) = V c main_v26 (ix3 (image t) 0 j) := by
  blk_ext [blk, index_at t, image]

theorem blk4_apply (r : Fin 720) :
    blk V c 4 t (ix4 0 0 r 0) = V c main_v27 (ix4 (image t) (part t) r 0) := by
  blk_ext [blk, index_at t, image, part]

theorem blk5_apply (j : Fin 3600) : blk V c 5 t (ix3 0 0 j) = V c main_v28 (ix3 (image t) 0 j) := by
  blk_ext [blk, index_at t, image]

end Cert.KernelIdeal.Dist
-- ==== Proof.Key.lean ====
/-
  A point's key block, as the masked table of squared distances: the entry in a row and a column of the block is the
  table's entry for the point's image, the row's place in the image, and the column.
-/
module

public import proofs.«01_k».proof.Proof.ReferenceLeast
public import proofs.«01_k».proof.Proof.Prologue
public import proofs.«01_k».proof.Proof.DistBlocks

@[expose] public section

noncomputable section

namespace Cert.KernelIdeal.Dist

open Cert.KernelIdeal Cert.KernelIdeal.Gen Idealize.ShloMosaic Idealize.ShloMosaic.TcCoe Cert.Match
open Cert.ReferenceIdeal.Read Idealize.SL.Sem

theorem pay1_apply (v0 : Vec Ideal S1x720x384 .f32) (v2 : Vec Ideal S1x384x3600 .f32) (v5 : Vec Ideal S1x1x720x1 .f32)
    (v7 : Vec Ideal S1x1x3600 .f32) (v17 : Vec Ideal S1x1x720x1 .i32) (v21 : Vec Ideal S1x1x3600 .i32)
    (r : Fin 720) (j : Fin 3600) :
    k0_pay1 (F := Ideal) v0 v2 v5 v7 v17 v21 (ix2 r j)
    = Scalar.select (IntOp.andi (IntOp.cmpi CmpIPredicate.sgt (v17 (ix4 0 0 r 0)) 0#32) (IntOp.cmpi CmpIPredicate.sgt (v21 (ix3 0 0 j)) 0#32))
        (max (v5 (ix4 0 0 r 0) + v7 (ix3 0 0 j) - Ideal.ofBits FTy.f32 1073741824#32 * ∑ x, v0 (ix3 0 r x) * v2 (ix3 0 x j)) 0)
        (Ideal.ofBits FTy.f32 1454761505#32) := by
  unfold k0_pay1
  pointwise

/-- A bit widened to a word is positive exactly when the bit is set. -/
theorem widened_pos (b : BitVec 1) : IntOp.cmpi CmpIPredicate.sgt (BitVec.setWidth 32 b) 0#32 = b := by
  revert b; decide

section Places

variable (b : Fin 4) (i j : Fin 3600)

theorem place_rows_bit : idx_main_v33 (idx_main_v35 (ix3 b i j)) = ix2 b i := by
  funext a; match a with | ⟨0, _⟩ => rfl | ⟨1, _⟩ => rfl

theorem place_cols_bit : idx_main_v34 (idx_main_v36 (ix3 b i j)) = ix2 b j := by
  funext a; match a with | ⟨0, _⟩ => rfl | ⟨1, _⟩ => rfl

theorem place_rows : idx_main_v22 (idx_main_v24 (ix3 b i j)) = ix2 b i := by
  funext a; match a with | ⟨0, _⟩ => rfl | ⟨1, _⟩ => rfl

theorem place_cols : idx_main_v23 (idx_main_v25 (ix3 b i j)) = ix2 b j := by
  funext a; match a with | ⟨0, _⟩ => rfl | ⟨1, _⟩ => rfl

theorem place_left (k : Fin 384) : lidx_main_v27 (ix3 b i j) k = ix3 b i k := by
  funext a; match a with | ⟨0, _⟩ => rfl | ⟨1, _⟩ => rfl | ⟨2, _⟩ => rfl

theorem place_right (k : Fin 384) : ridx_main_v27 (ix3 b i j) k = ix3 b j k := by
  funext a; match a with | ⟨0, _⟩ => rfl | ⟨1, _⟩ => rfl | ⟨2, _⟩ => rfl

end Places

variable (m : (ℓ : Loc nD τ sig) → Buf (Elt Ideal) ℓ) (c : Dev nD)

theorem keyAt_apply (t : Fin cfg0.N) (r : Fin 720) (j : Fin 3600) :
    keyAt (V m) c t (ix2 r j)
    = tab (m ((c : Thread nD τ).loc main_arg0)) (m ((c : Thread nD τ).loc main_arg1)) (m ((c : Thread nD τ).loc main_arg2))
        (m ((c : Thread nD τ).loc main_arg3)) (t.val / 5) (t.val % 5 * 720 + r.val) j.val := by
  obtain ⟨e14, e24, e25, e26, e27, e28⟩ := entry m c
  unfold keyAt
  rw [pay1_apply, blk2_apply, blk3_apply, blk4_apply, blk5_apply, e25, e26, e27, e28]
  simp only [blk0_apply, blk1_apply, e14, e24]
  refine Eq.trans ?_ (tab_ix3 _ _ _ _ (image t) (rowOf t r) j)
  rw [v42_eq, v32_eq, val_main_v27_apply, val_main_v37_apply, val_main_v35_apply, val_main_v33_apply, val_main_v36_apply,
    val_main_v34_apply]
  generalize val_main_v8 (F := Ideal) _ = y8
  generalize val_main_v11 (F := Ideal) _ = y11
  generalize val_main_v14 (F := Ideal) _ _ = y14
  generalize val_main_v17 (F := Ideal) _ _ = y17
  generalize val_main_v19 (F := Ideal) _ _ = y19
  generalize val_main_v21 (F := Ideal) _ _ = y21
  pointwise
  simp only [widened_pos, place_rows_bit, place_cols_bit, place_rows, place_cols, place_left, place_right]
  rfl

end Cert.KernelIdeal.Dist
-- ==== Proof.DistLeast.lean ====
/-
  What one point's blocks of answers are at an index, from what its key block is: a row's, a column's least key and the
  first place where it stands; and, block after block of an image, the scratch's running answer for a column.
-/
module

public import proofs.«01_k».proof.Proof.Least
public import proofs.«01_k».proof.Proof.Bounds
public import proofs.«01_k».proof.Proof.DistRegion
public import Idealize.ShloMosaic.Lib.Pointwise

@[expose] public section

noncomputable section

namespace Cert.KernelIdeal.Dist

open Cert.KernelIdeal Cert.KernelIdeal.Gen Idealize.ShloMosaic Idealize.ShloMosaic.TcCoe Cert.Match

section Block

variable (K : FVec Ideal S720x3600 .f32)

theorem pay2_apply (v0 : Vec Ideal S1x720x384 .f32) (v2 : Vec Ideal S1x384x3600 .f32) (v5 : Vec Ideal S1x1x720x1 .f32)
    (v7 : Vec Ideal S1x1x3600 .f32) (v17 : Vec Ideal S1x1x720x1 .i32) (v21 : Vec Ideal S1x1x3600 .i32)
    {g : ℕ → EReal} {r : Fin 720} {c : ℕ}
    (hK : ∀ j : Fin 3600, k0_pay1 (F := Ideal) v0 v2 v5 v7 v17 v21 (ix2 r j) = g j) (h : FirstN g 3600 c) :
    k0_pay2 (F := Ideal) v0 v2 v5 v7 v17 v21 (ix1 r) = g c := by
  unfold k0_pay2
  generalize k0_pay1 (F := Ideal) v0 v2 v5 v7 v17 v21 = K at hK
  pointwise
  rw [inf_eq]
  exact fold_min_eq h _ hK

/-- A row's least key, where the row's output keeps it. -/
theorem pay5_apply (R : FVec Ideal S720 .f32) (r : Fin 720) : k0_pay5 (F := Ideal) R (ix4 0 0 r 0) = R (ix1 r) := by
  unfold k0_pay5 k0_pay3
  pointwise

/-- The first place of a row's least key. -/
theorem pay4_apply (R : FVec Ideal S720 .f32) {g : ℕ → EReal} {r : Fin 720} {c : ℕ}
    (hK : ∀ j : Fin 3600, K (ix2 r j) = g j) (hR : R (ix1 r) = g c) (h : FirstN g 3600 c) :
    k0_pay4 (F := Ideal) K R (ix4 0 0 r 0) = BitVec.ofNat 32 c := by
  unfold k0_pay4 k0_pay3
  pointwise
  refine fold_minsi_eq h (by norm_num) _ fun k => ?_
  rw [hK, hR]

/-- A column's least key in the block. -/
theorem pay6_apply {g : ℕ → EReal} {j : Fin 3600} {c : ℕ} (hK : ∀ r : Fin 720, K (ix2 r j) = g r)
    (h : FirstN g 720 c) : k0_pay6 (F := Ideal) K (ix2 0 j) = g c := by
  unfold k0_pay6
  pointwise
  rw [inf_eq]
  exact fold_min_eq h _ hK

/-- The first row of the block, counted from the image's first row, where it stands. -/
theorem pay7_apply {g : ℕ → EReal} {j : Fin 3600} {c q : ℕ} (hK : ∀ r : Fin 720, K (ix2 r j) = g r)
    (h : FirstN g 720 c) :
    k0_pay7 (F := Ideal) (BitVec.ofNat 32 q) K (ix2 0 j) = BitVec.ofNat 32 (q * 720 + c) := by
  unfold k0_pay7
  pointwise
  have e := fold_minsi_eq h (by norm_num)
    (fun x : Fin 720 => if K (ix2 x j) = k0_pay6 K (ix2 0 j) then BitVec.ofNat 32 x.val else 720#32)
    (fun k => by rw [hK, pay6_apply K hK h])
  refine (congrArg (fun w => IntOp.addi w (Scalar.muli (BitVec.ofNat 32 q) 720#32)) e).trans ?_
  rw [Nat.add_comm, BitVec.ofNat_add, BitVec.ofNat_mul]
  rfl

theorem pay8_apply (j : Fin 3600) : k0_pay8 (F := Ideal) K (ix2 0 j) = k0_pay6 (F := Ideal) K (ix2 0 j) := by
  unfold k0_pay8
  pointwise

theorem pay9_apply (a : BitVec 32) (j : Fin 3600) :
    k0_pay9 (F := Ideal) a K (ix2 0 j) = k0_pay7 (F := Ideal) a K (ix2 0 j) := by
  unfold k0_pay9
  pointwise

theorem pay11_apply (old : Vec Ideal S1x3600 .f32) (j : Fin 3600) :
    k0_pay11 (F := Ideal) K old (ix2 0 j)
      = if k0_pay6 (F := Ideal) K (ix2 0 j) < old (ix2 0 j) then k0_pay6 (F := Ideal) K (ix2 0 j) else old (ix2 0 j) := by
  unfold k0_pay11 k0_pay10
  pointwise

theorem pay12_apply (a : BitVec 32) (old : Vec Ideal S1x3600 .f32) (oldp : Vec Ideal S1x3600 .i32) (j : Fin 3600) :
    k0_pay12 (F := Ideal) a K old oldp (ix2 0 j)
      = if k0_pay6 (F := Ideal) K (ix2 0 j) < old (ix2 0 j) then k0_pay7 (F := Ideal) a K (ix2 0 j)
        else oldp (ix2 0 j) := by
  unfold k0_pay12 k0_pay10
  pointwise

theorem pay13_apply (v : Vec Ideal S1x3600 .i32) (j : Fin 3600) : k0_pay13 (F := Ideal) v (ix3 0 0 j) = v (ix2 0 j) := by
  unfold k0_pay13
  pointwise

theorem pay14_apply (v : Vec Ideal S1x3600 .f32) (j : Fin 3600) : k0_pay14 (F := Ideal) v (ix3 0 0 j) = v (ix2 0 j) := by
  unfold k0_pay14
  pointwise

end Block

section Scratch

variable (V : (c : Dev nD) → (b : Ref sig .tc) → Buf (Elt Ideal) ((c : Thread nD τ).loc b))

/-- A point's block number within its image. -/
theorem blkNo_eq : ∀ t : Fin cfg0.N, blkNo (grid0.coords t) = BitVec.ofNat 32 (t.val % 5) :=
  (by decide +kernel : ∀ t : Fin grid0.N, blkNo (grid0.coords t) = BitVec.ofNat 32 (t.val % 5))

/-- After a point the scratch holds, for each column, the least key of the image's rows up to this block and the first
    of these rows where it stands. -/
theorem scrAt_apply (c : Dev nD) {T : ℕ → ℕ → ℕ → EReal}
    (hT : ∀ (t : Fin cfg0.N) (r : Fin 720) (j : Fin 3600),
      keyAt V c t (ix2 r j) = T (t.val / 5) (t.val % 5 * 720 + r.val) j.val)
    (j : Fin 3600) : ∀ (n : ℕ) (hn : n < cfg0.N), ∃ p, FirstN (fun i => T (n / 5) i j) ((n % 5 + 1) * 720) p
      ∧ (scrAt V c n hn).1 (ix2 0 j) = T (n / 5) p j ∧ (scrAt V c n hn).2 (ix2 0 j) = BitVec.ofNat 32 p := by
  intro n
  induction n with
  | zero =>
    intro hn
    obtain ⟨d, hd⟩ := exists_firstN (fun r => T 0 r j) 719
    have hK : ∀ r : Fin 720, keyAt V c ⟨0, hn⟩ (ix2 r j) = (fun r => T 0 r j) r.val := fun r => by
      have := hT ⟨0, hn⟩ r j
      simpa using this
    have e : scrAt V c 0 hn = _ := scrAt_first V c ⟨0, hn⟩ rfl
    refine ⟨d, hd, ?_, ?_⟩
    · rw [e]; dsimp only; rw [pay8_apply, pay6_apply _ hK hd]
    · rw [e]; dsimp only; rw [pay9_apply, blkNo_eq]
      have := pay7_apply (q := 0) _ hK hd
      simpa using this
  | succ n ih =>
    intro hn
    obtain ⟨d, hd⟩ := exists_firstN (fun r => T ((n + 1) / 5) ((n + 1) % 5 * 720 + r) j) 719
    have hK : ∀ r : Fin 720, keyAt V c ⟨n + 1, hn⟩ (ix2 r j)
        = (fun r => T ((n + 1) / 5) ((n + 1) % 5 * 720 + r) j) r.val := fun r => hT ⟨n + 1, hn⟩ r j
    by_cases h0 : (n + 1) % 5 = 0
    · have e : scrAt V c (n + 1) hn = _ := scrAt_first V c ⟨n + 1, hn⟩ h0
      refine ⟨d, ?_, ?_, ?_⟩
      · rw [h0]; rw [h0] at hd; simpa using hd
      · rw [e]; dsimp only; rw [pay8_apply, pay6_apply _ hK hd, h0]; simp
      · rw [e]; dsimp only; rw [pay9_apply, blkNo_eq, pay7_apply _ hK hd]
        show BitVec.ofNat 32 ((n + 1) % 5 * 720 + d) = _
        rw [h0]; simp
    · obtain ⟨p, hp, h1, h2⟩ := ih (Nat.lt_of_succ_lt hn)
      have e : scrAt V c (n + 1) hn = _ := scrAt_later V c ⟨n + 1, hn⟩ h0
      have hq : n / 5 = (n + 1) / 5 := by omega
      have hr : n % 5 + 1 = (n + 1) % 5 := by omega
      have e1 : (scrAt V c ((⟨n + 1, hn⟩ : Fin cfg0.N).val - 1) (by omega)).1 (ix2 0 j) = T ((n + 1) / 5) p j := by
        rw [← hq]; exact h1
      have e2 : (scrAt V c ((⟨n + 1, hn⟩ : Fin cfg0.N).val - 1) (by omega)).2 (ix2 0 j) = BitVec.ofNat 32 p := h2
      rw [hq, hr] at hp
      have happ := hp.append hd
      refine ⟨if T ((n + 1) / 5) ((n + 1) % 5 * 720 + d) j < T ((n + 1) / 5) p j then (n + 1) % 5 * 720 + d else p,
        ?_, ?_, ?_⟩
      · rw [show ((n + 1) % 5 + 1) * 720 = (n + 1) % 5 * 720 + 720 by ring]
        exact happ
      · rw [e]; dsimp only; rw [pay11_apply, e1, pay6_apply _ hK hd]
        split_ifs <;> rfl
      · rw [e]; dsimp only; rw [pay12_apply, e1, e2, pay6_apply _ hK hd, blkNo_eq, pay7_apply _ hK hd]
        show (if T ((n + 1) / 5) ((n + 1) % 5 * 720 + d) j < T ((n + 1) / 5) p j then
          BitVec.ofNat 32 ((n + 1) % 5 * 720 + d) else BitVec.ofNat 32 p) = _
        split_ifs <;> rfl

end Scratch

end Cert.KernelIdeal.Dist

end
-- ==== Proof.Outputs.lean ====
/-
  The arrays that the region leaves in its four outputs: every place of an output is written back by one point, and holds
  what that point's block holds there. A row's answers are written back by the point that has the row, a column's by the
  last point of the image, whose scratch has gone through all of the image's rows.
-/
module

public import proofs.«01_k».proof.Proof.DistLeast
public import proofs.«01_k».proof.Proof.DistBlocks

@[expose] public section

noncomputable section

namespace Cert.KernelIdeal.Dist

open Cert.KernelIdeal Cert.KernelIdeal.Gen Idealize.ShloMosaic Idealize.ShloMosaic.TcCoe Idealize.ShloMosaic.Tactic
open Cert.Match

variable (V : (c : Dev nD) → (b : Ref sig .tc) → Buf (Elt Ideal) ((c : Thread nD τ).loc b)) (c : Dev nD)

theorem row_place (y : S1x1x720x1.Idx) : y = ix4 0 0 (y 2) 0 := by
  funext a
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _

theorem column_place (y : S1x1x3600.Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

/-- A row-major recast of rows into blocks of rows, at a place. -/
theorem spread_rows {e : EltTy} (Y : Vec Ideal S4x3600 e) (b : Fin 4) (p : Fin 5) (r : Fin 720) :
    shapeCast S4x5x720x1 Y shapeCasts_S4x3600_S4x5x720x1 (ix4 b p r 0) = Y (ix2 b ⟨p.val * 720 + r.val, by omega⟩) := by
  pointwise

theorem spread_columns {e : EltTy} (Y : Vec Ideal S4x3600 e) (b : Fin 4) (j : Fin 3600) :
    shapeCast S4x1x3600 Y shapeCasts_S4x3600_S4x1x3600 (ix3 b 0 j) = Y (ix2 b j) := by
  pointwise

theorem array6 (Y : Vec Ideal S4x3600 .i32)
    (hY : ∀ (t : Fin cfg0.N) (r : Fin 720), k0_pay4 (keyAt V c t) (rowMinAt V c t) (ix4 0 0 r 0) = Y (ix2 (image t) (rowOf t r))) :
    (dat0 V c).arrAt 6 cfg0.N = shapeCast S4x5x720x1 Y shapeCasts_S4x3600_S4x5x720x1 := by
  refine (dat0 V c).arrAt_eq_of_covers 6 _ (by decide +kernel) fun t hf y => ?_
  obtain ⟨r, hr⟩ : ∃ r : Fin 720, y = (ix4 0 0 r 0 : S1x1x720x1.Idx) := ⟨_, row_place y⟩
  have e : ((cfg0.win 6).blk t).view.emb y = (ix4 (image t) (part t) r 0 : S4x5x720x1.Idx) := by
    subst hr
    blk_ext [index_at t, image, part]
  have h := hY t r
  rw [after6, e, hr]
  generalize k0_pay4 (keyAt V c t) (rowMinAt V c t) = A at h ⊢
  have hx : (cfg0.win 6).xinj (cfg0.grid.coords t) (ix4 0 0 r 0 : S1x1x720x1.Idx) = (ix4 0 0 r 0 : S1x1x720x1.Idx) := by
    funext a; rfl
  rw [hx, h]
  refine (cast_eq _ _).trans ?_
  exact (spread_rows Y (image t) (part t) r).symm

theorem array8 (Y : Vec Ideal S4x3600 .f32)
    (hY : ∀ (t : Fin cfg0.N) (r : Fin 720), k0_pay5 (rowMinAt V c t) (ix4 0 0 r 0) = Y (ix2 (image t) (rowOf t r))) :
    (dat0 V c).arrAt 8 cfg0.N = shapeCast S4x5x720x1 Y shapeCasts_S4x3600_S4x5x720x1 := by
  refine (dat0 V c).arrAt_eq_of_covers 8 _ (by decide +kernel) fun t hf y => ?_
  obtain ⟨r, hr⟩ : ∃ r : Fin 720, y = (ix4 0 0 r 0 : S1x1x720x1.Idx) := ⟨_, row_place y⟩
  have e : ((cfg0.win 8).blk t).view.emb y = (ix4 (image t) (part t) r 0 : S4x5x720x1.Idx) := by
    subst hr
    blk_ext [index_at t, image, part]
  have h := hY t r
  rw [after8, e, hr]
  generalize k0_pay5 (rowMinAt V c t) = A at h ⊢
  have hx : (cfg0.win 8).xinj (cfg0.grid.coords t) (ix4 0 0 r 0 : S1x1x720x1.Idx) = (ix4 0 0 r 0 : S1x1x720x1.Idx) := by
    funext a; rfl
  rw [hx, h]
  refine (cast_eq _ _).trans ?_
  exact (spread_rows Y (image t) (part t) r).symm

theorem array7 (Y : Vec Ideal S4x3600 .i32)
    (hY : ∀ (t : Fin cfg0.N) (j : Fin 3600), t.val % 5 = 4 → (scrAt V c t.val t.isLt).2 (ix2 0 j) = Y (ix2 (image t) j)) :
    (dat0 V c).arrAt 7 cfg0.N = shapeCast S4x1x3600 Y shapeCasts_S4x3600_S4x1x3600 := by
  refine (dat0 V c).arrAt_eq_of_covers 7 _ (by decide +kernel) fun t hf y => ?_
  obtain ⟨j, hj⟩ : ∃ j : Fin 3600, y = (ix3 0 0 j : S1x1x3600.Idx) := ⟨_, column_place y⟩
  have e : ((cfg0.win 7).blk t).view.emb y = (ix3 (image t) 0 j : S4x1x3600.Idx) := by
    subst hj
    blk_ext [index_at t, image]
  have h := (pay13_apply (scrAt V c t.val t.isLt).2 j).trans (hY t j ((flush0_7 t).mp hf))
  rw [after7, e, hj]
  generalize k0_pay13 (F := Ideal) (scrAt V c t.val t.isLt).2 = A at h ⊢
  have hx : (cfg0.win 7).xinj (cfg0.grid.coords t) (ix3 0 0 j : S1x1x3600.Idx) = (ix3 0 0 j : S1x1x3600.Idx) := by
    funext a; rfl
  rw [hx, h]
  refine (cast_eq _ _).trans ?_
  exact (spread_columns Y (image t) j).symm

theorem array9 (Y : Vec Ideal S4x3600 .f32)
    (hY : ∀ (t : Fin cfg0.N) (j : Fin 3600), t.val % 5 = 4 → (scrAt V c t.val t.isLt).1 (ix2 0 j) = Y (ix2 (image t) j)) :
    (dat0 V c).arrAt 9 cfg0.N = shapeCast S4x1x3600 Y shapeCasts_S4x3600_S4x1x3600 := by
  refine (dat0 V c).arrAt_eq_of_covers 9 _ (by decide +kernel) fun t hf y => ?_
  obtain ⟨j, hj⟩ : ∃ j : Fin 3600, y = (ix3 0 0 j : S1x1x3600.Idx) := ⟨_, column_place y⟩
  have e : ((cfg0.win 9).blk t).view.emb y = (ix3 (image t) 0 j : S4x1x3600.Idx) := by
    subst hj
    blk_ext [index_at t, image]
  have h := (pay14_apply (scrAt V c t.val t.isLt).1 j).trans (hY t j ((flush0_9 t).mp hf))
  rw [after9, e, hj]
  generalize k0_pay14 (F := Ideal) (scrAt V c t.val t.isLt).1 = A at h ⊢
  have hx : (cfg0.win 9).xinj (cfg0.grid.coords t) (ix3 0 0 j : S1x1x3600.Idx) = (ix3 0 0 j : S1x1x3600.Idx) := by
    funext a; rfl
  rw [hx, h]
  refine (cast_eq _ _).trans ?_
  exact (spread_columns Y (image t) j).symm

end Cert.KernelIdeal.Dist
-- ==== Proof.Results.lean ====
/-
  The region's four outputs, recast to a row per image, are the reference's four results: both are, along each row and
  each column of the masked table of squared distances, the first place of the least entry, and that entry.
-/
module

public import proofs.«01_k».proof.Proof.Key
public import proofs.«01_k».proof.Proof.Outputs

@[expose] public section

noncomputable section

namespace Cert.KernelIdeal.Dist

open Cert.KernelIdeal Cert.KernelIdeal.Gen Idealize.ShloMosaic Idealize.ShloMosaic.TcCoe Cert.Match
open Cert.ReferenceIdeal.Read Idealize.SL.Sem

variable (m : (ℓ : Loc nD τ sig) → Buf (Elt Ideal) ℓ) (c : Dev nD)

/-- The masked table of squared distances of the program's arguments. -/
abbrev table (b i j : ℕ) : EReal :=
  tab (m ((c : Thread nD τ).loc main_arg0)) (m ((c : Thread nD τ).loc main_arg1)) (m ((c : Thread nD τ).loc main_arg2))
    (m ((c : Thread nD τ).loc main_arg3)) b i j

/-- A row's least key is its entry at the first place of the least. -/
theorem rowMinAt_apply (t : Fin cfg0.N) (r : Fin 720) {p : ℕ}
    (h : FirstN (fun k => table m c (t.val / 5) (t.val % 5 * 720 + r.val) k) 3600 p) :
    rowMinAt (V m) c t (ix1 r) = table m c (t.val / 5) (t.val % 5 * 720 + r.val) p :=
  pay2_apply _ _ _ _ _ _ (fun j => keyAt_apply m c t r j) h

theorem result6 : shapeCast S4x3600 ((dat0 (V m) c).arrAt 6 cfg0.N) shapeCasts_S4x5x720x1_S4x3600
    = val_main_v40 (F := Ideal) (m ((c : Thread nD τ).loc main_arg0)) (m ((c : Thread nD τ).loc main_arg1))
        (m ((c : Thread nD τ).loc main_arg2)) (m ((c : Thread nD τ).loc main_arg3)) := by
  rw [array6 (V m) c (val_main_v40 (F := Ideal) (m ((c : Thread nD τ).loc main_arg0)) (m ((c : Thread nD τ).loc main_arg1))
        (m ((c : Thread nD τ).loc main_arg2)) (m ((c : Thread nD τ).loc main_arg3))) fun t r => ?_]
  · exact shapeCast_shapeCast _ _ _
  · obtain ⟨p, hp⟩ := exists_firstN (fun k => table m c (t.val / 5) (t.val % 5 * 720 + r.val) k) 3599
    exact (pay4_apply _ _ (fun j => keyAt_apply m c t r j) (rowMinAt_apply m c t r hp) hp).trans
      (v40_ix2 (b := image t) (i := rowOf t r) _ _ _ _ hp).symm

theorem result8 : shapeCast S4x3600 ((dat0 (V m) c).arrAt 8 cfg0.N) shapeCasts_S4x5x720x1_S4x3600
    = val_main_v43 (F := Ideal) (m ((c : Thread nD τ).loc main_arg0)) (m ((c : Thread nD τ).loc main_arg1))
        (m ((c : Thread nD τ).loc main_arg2)) (m ((c : Thread nD τ).loc main_arg3)) := by
  rw [array8 (V m) c (val_main_v43 (F := Ideal) (m ((c : Thread nD τ).loc main_arg0)) (m ((c : Thread nD τ).loc main_arg1))
        (m ((c : Thread nD τ).loc main_arg2)) (m ((c : Thread nD τ).loc main_arg3))) fun t r => ?_]
  · exact shapeCast_shapeCast _ _ _
  · obtain ⟨p, hp⟩ := exists_firstN (fun k => table m c (t.val / 5) (t.val % 5 * 720 + r.val) k) 3599
    exact ((pay5_apply _ r).trans (rowMinAt_apply m c t r hp)).trans
      (v43_ix2 (b := image t) (i := rowOf t r) _ _ _ _ hp).symm

/-- At the last point of an image the scratch holds a column's first place of the least entry, and that entry. -/
theorem column (t : Fin cfg0.N) (ht : t.val % 5 = 4) (j : Fin 3600) :
    ∃ p, FirstN (fun i => table m c (t.val / 5) i j) 3600 p
      ∧ (scrAt (V m) c t.val t.isLt).1 (ix2 0 j) = table m c (t.val / 5) p j
      ∧ (scrAt (V m) c t.val t.isLt).2 (ix2 0 j) = BitVec.ofNat 32 p := by
  have h := scrAt_apply (V m) c (fun t r j => keyAt_apply m c t r j) j t.val t.isLt
  rwa [ht] at h

theorem result7 : shapeCast S4x3600 ((dat0 (V m) c).arrAt 7 cfg0.N) shapeCasts_S4x1x3600_S4x3600
    = val_main_v41 (F := Ideal) (m ((c : Thread nD τ).loc main_arg0)) (m ((c : Thread nD τ).loc main_arg1))
        (m ((c : Thread nD τ).loc main_arg2)) (m ((c : Thread nD τ).loc main_arg3)) := by
  rw [array7 (V m) c (val_main_v41 (F := Ideal) (m ((c : Thread nD τ).loc main_arg0)) (m ((c : Thread nD τ).loc main_arg1))
        (m ((c : Thread nD τ).loc main_arg2)) (m ((c : Thread nD τ).loc main_arg3))) fun t j ht => ?_]
  · exact shapeCast_shapeCast _ _ _
  · obtain ⟨p, hp, -, h⟩ := column m c t ht j
    exact h.trans (v41_ix2 (b := image t) (j := j) _ _ _ _ hp).symm

theorem result9 : shapeCast S4x3600 ((dat0 (V m) c).arrAt 9 cfg0.N) shapeCasts_S4x1x3600_S4x3600
    = val_main_v44 (F := Ideal) (m ((c : Thread nD τ).loc main_arg0)) (m ((c : Thread nD τ).loc main_arg1))
        (m ((c : Thread nD τ).loc main_arg2)) (m ((c : Thread nD τ).loc main_arg3)) := by
  rw [array9 (V m) c (val_main_v44 (F := Ideal) (m ((c : Thread nD τ).loc main_arg0)) (m ((c : Thread nD τ).loc main_arg1))
        (m ((c : Thread nD τ).loc main_arg2)) (m ((c : Thread nD τ).loc main_arg3))) fun t j ht => ?_]
  · exact shapeCast_shapeCast _ _ _
  · obtain ⟨p, hp, h, -⟩ := column m c t ht j
    exact h.trans (v44_ix2 (b := image t) (j := j) _ _ _ _ hp).symm

end Cert.KernelIdeal.Dist
-- ==== Proof.MatchRun.lean ====
/-
  The run of the matching program with the region's exact data: at the end each of the four results is the row-major
  recast of the array that the region leaves in the corresponding output, and the arguments are unchanged.
-/
module

public import proofs.«01_k».proof.Proof.DistRegion
public import proofs.«01_k».proof.Proof.Gen.KernelIdeal.Frame.Runs

@[expose] public section

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The region's data on every core, from the arrays' contents at its entry. -/
def exact (p : Fin 1) (c : Dev nD) : Pipeline.Dat τ (Elt F) Unit ℕ (UR sig nD τ) ℕ (cfgs p) c :=
  match p with
  | 0 => dat0 (V m) c

theorem exact_in (c : Dev nD) : Pipeline.ΦA spec0 c ⊢ (exact m 0 c).Φ 0 := by
  rw [show (exact m 0 c).Φ 0 = inv (V m) c 0 (Nat.zero_le _) from rfl, inv_zero (V m) c 0 _ rfl]

theorem exact_out (c : Dev nD) : (exact m 0 c).Φ (Fin.last cfg0.N) ⊢ Pipeline.ΦA spec0 c :=
  inv_forget (V m) c (Fin.last cfg0.N).val _

set_option backward.isDefEq.respectTransparency.types false in
set_option maxHeartbeats 800000 in
/-- Every run ends with the region's arrays at what its data says and the other arrays as the operations after it
    leave them. -/
theorem run_exact : θ_run defs (onTc (τ := τ) (main (F := F))) (s₀ m ρ) (Pipeline.FramePost cfgs (exact m) 0 (Pipeline.afterTail₀ cfgs (exact m) 0 (V0 m) [hostOps1])) :=
  Pipeline.θ_run_frame_around_track cfgs (exact m) (0 : Fin 1) launch0 defs₀ Variants.none m ρ main
    (hbody := fun c => (body_obligation0 (V m) c).loose) (hshare := fun c => (exact m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hin := exact_in m) (hout := exact_out m)

/-- What the operations after the region make of its four outputs. -/
theorem tail_results (c : Dev nD) (W : Valuation τ sig (Elt F)) :
    StableHlo.after (List.flatten [hostOps1]) W (Proc.devRef .tc main_v30) = shapeCast _ (W (Proc.devRef .tc main_v29_0)) shapeCasts_S4x5x720x1_S4x3600
    ∧ StableHlo.after (List.flatten [hostOps1]) W (Proc.devRef .tc main_v31) = shapeCast _ (W (Proc.devRef .tc main_v29_1)) shapeCasts_S4x1x3600_S4x3600
    ∧ StableHlo.after (List.flatten [hostOps1]) W (Proc.devRef .tc main_v32) = shapeCast _ (W (Proc.devRef .tc main_v29_2)) shapeCasts_S4x5x720x1_S4x3600
    ∧ StableHlo.after (List.flatten [hostOps1]) W (Proc.devRef .tc main_v33) = shapeCast _ (W (Proc.devRef .tc main_v29_3)) shapeCasts_S4x1x3600_S4x3600 := by
  simp only [hostOps1, List.flatten_cons, List.flatten_nil, List.append_nil]
  refine ⟨?_, ?_, ?_, ?_⟩ <;> after_results_simp <;> rfl

/-- The four results and the arguments at the end of every run. -/
theorem run_results : θ_run defs (onTc (τ := τ) (main (F := F))) ⟨m, fun _ => 0, ρ⟩ (fun r => ∀ c : Dev nD,
      (r.2.mem ((c.tc : Thread nD τ).loc main_v30) = shapeCast _ ((dat0 (V m) c).arrAt 6 cfg0.N) shapeCasts_S4x5x720x1_S4x3600
      ∧ r.2.mem ((c.tc : Thread nD τ).loc main_v31) = shapeCast _ ((dat0 (V m) c).arrAt 7 cfg0.N) shapeCasts_S4x1x3600_S4x3600
      ∧ r.2.mem ((c.tc : Thread nD τ).loc main_v32) = shapeCast _ ((dat0 (V m) c).arrAt 8 cfg0.N) shapeCasts_S4x5x720x1_S4x3600
      ∧ r.2.mem ((c.tc : Thread nD τ).loc main_v33) = shapeCast _ ((dat0 (V m) c).arrAt 9 cfg0.N) shapeCasts_S4x1x3600_S4x3600)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have hargs := frame_of m ρ (exact m) (fun _ _ => rfl) (run_exact m ρ)
  refine (θ_run defs _ _).mono (fun r h c => ⟨?_, h.2 c⟩) (θ_run_and (run_exact m ρ) hargs)
  have hc := h.1 c
  obtain ⟨t0, t1, t2, t3⟩ := tail_results c (Pipeline.withArrays spec0 c (V0 m c) fun w => (exact m 0 c).arrAt w cfg0.N)
  refine ⟨?_, ?_, ?_, ?_⟩
  · refine (hc.2 main_v30 (Pipeline.mem_restRefs_of main_v30 (by decide) (by decide))).trans (t0.trans ?_)
    exact congrArg (fun x => shapeCast _ x shapeCasts_S4x5x720x1_S4x3600)
      (Pipeline.withArrays_arr spec0 launch0.win.arr_inj c (V0 m c) (fun w => (exact m 0 c).arrAt w cfg0.N) 6)
  · refine (hc.2 main_v31 (Pipeline.mem_restRefs_of main_v31 (by decide) (by decide))).trans (t1.trans ?_)
    exact congrArg (fun x => shapeCast _ x shapeCasts_S4x1x3600_S4x3600)
      (Pipeline.withArrays_arr spec0 launch0.win.arr_inj c (V0 m c) (fun w => (exact m 0 c).arrAt w cfg0.N) 7)
  · refine (hc.2 main_v32 (Pipeline.mem_restRefs_of main_v32 (by decide) (by decide))).trans (t2.trans ?_)
    exact congrArg (fun x => shapeCast _ x shapeCasts_S4x5x720x1_S4x3600)
      (Pipeline.withArrays_arr spec0 launch0.win.arr_inj c (V0 m c) (fun w => (exact m 0 c).arrAt w cfg0.N) 8)
  · refine (hc.2 main_v33 (Pipeline.mem_restRefs_of main_v33 (by decide) (by decide))).trans (t3.trans ?_)
    exact congrArg (fun x => shapeCast _ x shapeCasts_S4x1x3600_S4x3600)
      (Pipeline.withArrays_arr spec0 launch0.win.arr_inj c (V0 m c) (fun w => (exact m 0 c).arrAt w cfg0.N) 9)

end Cert.KernelIdeal.Dist

end
-- ==== Proof.Agree.lean ====
/-
  The two programs agree: from equal arguments, and with floats the extended reals, the kernel's four results are the
  reference's.
-/
module

public import proofs.«01_k».proof.Defs
public import proofs.«01_k».proof.Proof.Results
public import proofs.«01_k».proof.Proof.MatchRun

@[expose] public section

noncomputable section

namespace Cert.Proof

open Idealize.ShloMosaic Idealize.ShloMosaic.TcCoe Idealize.SL.Sem Cert.ReferenceIdeal.Read

theorem agree : Cert.algebraic_KernelIdeal_ReferenceIdeal (hKernelIdeal := Cert.KernelIdeal.Gen.facts)
    (hReferenceIdeal := Cert.ReferenceIdeal.Gen.facts) := by
  intro m g m' g' _ hargs
  refine ⟨fun c => val_main_v40 (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => val_main_v41 (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => val_main_v43 (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => val_main_v44 (F := Ideal) (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · refine (θ_run _ _ _).mono (fun r h c => ?_) (Cert.KernelIdeal.Dist.run_results m g)
    obtain ⟨⟨h0, h1, h2, h3⟩, ha⟩ := h c
    exact ⟨h0.trans (Cert.KernelIdeal.Dist.result6 m c), h1.trans (Cert.KernelIdeal.Dist.result7 m c),
      h2.trans (Cert.KernelIdeal.Dist.result8 m c), h3.trans (Cert.KernelIdeal.Dist.result9 m c), ha⟩
  · refine (θ_run _ _ _).mono (fun r h c => ?_) (Cert.ReferenceIdeal.Value.run m' g')
    obtain ⟨h0, h1, h2, h3, ha⟩ := h c
    obtain ⟨e0, e1, e2, e3⟩ := hargs c
    refine ⟨(h0.trans (val_main_v40_eq m' c)).trans ?_, (h1.trans (val_main_v41_eq m' c)).trans ?_,
      (h2.trans (val_main_v43_eq m' c)).trans ?_, (h3.trans (val_main_v44_eq m' c)).trans ?_, ha⟩ <;>
    rw [e0, e1, e2, e3]

end Cert.Proof

end
-- ==== Proof.ReferenceFrame.lean ====
/-
  The reference's frame: every run ends, leaves the arguments as they were, and leaves every counter at zero.
-/
module

public import proofs.«01_k».proof.Proof.ReferenceRun
public import Idealize.ShloMosaic.Lib.Quiescent

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2.2.2, sem_eq_zero_of_no_sems rfl r.2⟩) (run m ρ)

end Cert.ReferenceIdeal.Value

end
-- ==== Proof.lean ====
/-
  The proof of `Cert.Claim`: of the matching, the kernel's frame, its idealization's and the reference's, that the
  idealization is the kernel's own text, and that the idealization's results are the reference's; of the selection,
  the frames of the kernel and its idealization, and that the idealization is the kernel's own text.
-/
module

public import proofs.«01_k».proof.Defs
public import proofs.«01_k».proof.Proof.Agree
public import proofs.«01_k».proof.Proof.ReferenceFrame
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts,
  fun m ρ _ => Cert.Kernel.Gen.frame m ρ, fun m ρ _ => Cert.KernelIdeal.Gen.frame m ρ,
  fun m ρ _ => Cert.ReferenceIdeal.Value.frame m ρ,
  fun m ρ _ => Cert.Kernel2.Gen.frame m ρ, fun m ρ _ => Cert.Kernel2Ideal.Gen.frame m ρ, trivial, agree, trivial⟩

end Cert.Proof

end
